-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_prefix_mask [hPre_prefix_mask : Cert.Pre_prefix_mask.Facts] (m : (ℓ : Loc Cert.KernelIdeal.nD Cert.KernelIdeal.τ Cert.KernelIdeal.sig) → Buf (Elt Ideal) ℓ) : Prop :=
  ∀ c : Dev Cert.KernelIdeal.nD,
    (Cert.Pre_prefix_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_prefix_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_prefix_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_prefix_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_prefix_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_prefix_mask [hPre_prefix_mask : Cert.Pre_prefix_mask.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_prefix_mask.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_prefix_mask.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_prefix_mask.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_prefix_mask.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_prefix_mask.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_prefix_mask [hKernelIdeal : Cert.KernelIdeal.Facts] [hPre_prefix_mask : Cert.Pre_prefix_mask.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_prefix_mask m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_prefix_mask [hReferenceIdeal : Cert.ReferenceIdeal.Facts] [hPre_prefix_mask : Cert.Pre_prefix_mask.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_prefix_mask m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_prefix_mask [hKernelIdeal : Cert.KernelIdeal.Facts] [hReferenceIdeal : Cert.ReferenceIdeal.Facts] [hPre_prefix_mask : Cert.Pre_prefix_mask.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_prefix_mask m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_prefix_mask : Cert.Pre_prefix_mask.Facts),
    quiescent_Kernel (hKernel := hKernel)
    ∧ quiescent_KernelIdeal (hKernelIdeal := hKernelIdeal)
    ∧ quiescent_KernelIdeal_pre_prefix_mask (hKernelIdeal := hKernelIdeal) (hPre_prefix_mask := hPre_prefix_mask)
    ∧ quiescent_ReferenceIdeal (hReferenceIdeal := hReferenceIdeal)
    ∧ quiescent_ReferenceIdeal_pre_prefix_mask (hReferenceIdeal := hReferenceIdeal) (hPre_prefix_mask := hPre_prefix_mask)
    ∧ preserves_Kernel_KernelIdeal
    ∧ algebraic_KernelIdeal_ReferenceIdeal_pre_prefix_mask (hKernelIdeal := hKernelIdeal) (hReferenceIdeal := hReferenceIdeal) (hPre_prefix_mask := hPre_prefix_mask)
-- ==== Pre_prefix_mask.lean ====
abbrev S4x2048x1024 : Shape := ⟨3, ![4, 2048, 1024]⟩
abbrev S1024x1024 : Shape := ⟨2, ![1024, 1024]⟩
abbrev S1024 : Shape := ⟨1, ![1024]⟩
abbrev S4x1024x1024 : Shape := ⟨3, ![4, 1024, 1024]⟩
abbrev S_ : Shape := ⟨0, ![]⟩
abbrev S4x1024 : Shape := ⟨2, ![4, 1024]⟩
abbrev S4x1023 : Shape := ⟨2, ![4, 1023]⟩

class Facts : Prop where
  slicesBy_S4x2048x1024_S4x1024x1024_0s1_0s2_0s1 : S4x2048x1024.SlicesBy (![0, 0, 0] : Fin 3 → Nat) ![1, 2, 1] S4x1024x1024
  reducesTo_S4x1024x1024_S4x1024_d2 : S4x1024x1024.ReducesTo [2] S4x1024
  h_S_ : 0 < S_.numel
  bcast_S_S4x1024 : S_.BroadcastsInDim S4x1024 (![] : Fin 0 → Fin S4x1024.rank)
  slices_S4x1024_S4x1023_0_0 : S4x1024.Slices ![0, 0] S4x1023
  slices_S4x1024_S4x1023_0_1 : S4x1024.Slices ![0, 1] S4x1023
  bcast_S_S4x2048x1024 : S_.BroadcastsInDim S4x2048x1024 (![] : Fin 0 → Fin S4x2048x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn_part1 {F : FTy → Type} [FloatOps F] (main_v7 : IVec S4x1023 1) (main_v10 : IVec S4x2048x1024 1) (main_v13 : IVec S4x2048x1024 1) (main_v16 : IVec S1024x1024 1) (main_v17 : FVec F S1024 .f32) (main_cst_4 : FVec F S_ .f32) : IVec S4x1023 1 × IVec S4x2048x1024 1 × IVec S4x2048x1024 1 × IVec S1024x1024 1 × IVec S1024 1 :=
  let main_v18 : FVec F S1024 .f32 := broadcastInDim S1024 ![] bcast_S_S1024 main_cst_4
  let main_v19 : IVec S1024 1 := cmpf .olt main_v17 main_v18
  (main_v7, main_v10, main_v13, main_v16, main_v19)

def fn {F : FTy → Type} [FloatOps F] (main_arg0 : FVec F S4x2048x1024 .f32) (main_arg1 : FVec F S4x2048x1024 .f32) (main_arg2 : FVec F S1024x1024 .f32) (main_arg3 : FVec F S1024 .f32) : IVec S4x1023 1 × IVec S4x2048x1024 1 × IVec S4x2048x1024 1 × IVec S1024x1024 1 × IVec S1024 1 :=
  let main_v0 : FVec F S4x1024x1024 .f32 := (Host.slice S4x1024x1024 ![0, 0, 0] ![1, 2, 1] · slicesBy_S4x2048x1024_S4x1024x1024_0s1_0s2_0s1) main_arg0
  let main_cst : FVec F S_ .f32 := constant S_ .f32 0x00000000#32
  let main_v1 : FVec F S4x1024 .f32 := (fun x v => Host.reduceAdd x v reducesTo_S4x1024x1024_S4x1024_d2 h_S_) main_v0 main_cst
  let main_cst_0 : FVec F S_ .f32 := constant S_ .f32 0x00000000#32
  let main_v2 : FVec F S4x1024 .f32 := broadcastInDim S4x1024 ![] bcast_S_S4x1024 main_cst_0
  let main_v3 : IVec S4x1024 1 := cmpf .une main_v1 main_v2
  let main_v4 : IVec S4x1023 1 := (extractStridedSlice S4x1023 ![0, 0] · slices_S4x1024_S4x1023_0_0) main_v3
  let main_v5 : IVec S4x1023 1 := (extractStridedSlice S4x1023 ![0, 1] · slices_S4x1024_S4x1023_0_1) main_v3
  let main_v6 : IVec S4x1023 1 := noti main_v5
  let main_v7 : IVec S4x1023 1 := ori main_v4 main_v6
  let main_v8 : FVec F S4x2048x1024 .f32 := Host.absf main_arg0
  let main_cst_1 : FVec F S_ .f32 := constant S_ .f32 0x7F800000#32
  let main_v9 : FVec F S4x2048x1024 .f32 := broadcastInDim S4x2048x1024 ![] bcast_S_S4x2048x1024 main_cst_1
  let main_v10 : IVec S4x2048x1024 1 := cmpf .olt main_v8 main_v9
  let main_v11 : FVec F S4x2048x1024 .f32 := Host.absf main_arg1
  let main_cst_2 : FVec F S_ .f32 := constant S_ .f32 0x7F800000#32
  let main_v12 : FVec F S4x2048x1024 .f32 := broadcastInDim S4x2048x1024 ![] bcast_S_S4x2048x1024 main_cst_2
  let main_v13 : IVec S4x2048x1024 1 := cmpf .olt main_v11 main_v12
  let main_v14 : FVec F S1024x1024 .f32 := Host.absf main_arg2
  let main_cst_3 : FVec F S_ .f32 := constant S_ .f32 0x7F800000#32
  let main_v15 : FVec F S1024x1024 .f32 := broadcastInDim S1024x1024 ![] bcast_S_S1024x1024 main_cst_3
  let main_v16 : IVec S1024x1024 1 := cmpf .olt main_v14 main_v15
  let main_v17 : FVec F S1024 .f32 := Host.absf main_arg3
  let main_cst_4 : FVec F S_ .f32 := constant S_ .f32 0x7F800000#32
  fn_part1 (F := F) main_v7 main_v10 main_v13 main_v16 main_v17 main_cst_4
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x1024 : Shape := ⟨2, ![1, 1024]⟩
abbrev S4x1x1024 : Shape := ⟨3, ![4, 1, 1024]⟩
abbrev S1x128 : Shape := ⟨2, ![1, 128]⟩
abbrev S4x1024 : Shape := ⟨2, ![4, 1024]⟩
abbrev S1x1 : Shape := ⟨2, ![1, 1]⟩
abbrev S_ : Shape := ⟨0, ![]⟩
abbrev S1x1024x1024 : Shape := ⟨3, ![1, 1024, 1024]⟩
abbrev S1x1x1024 : Shape := ⟨3, ![1, 1, 1024]⟩
abbrev S1 : Shape := ⟨1, ![1]⟩
abbrev S8x1024 : Shape := ⟨2, ![8, 1024]⟩
abbrev S1024x1 : Shape := ⟨2, ![1024, 1]⟩
abbrev S1x1024x1 : Shape := ⟨3, ![1, 1024, 1]⟩
abbrev S1x1x1 : Shape := ⟨3, ![1, 1, 1]⟩
abbrev S1x8x1024 : Shape := ⟨3, ![1, 8, 1024]⟩

abbrev nBuf : Space → Nat
  | .hbm => 14
  | .vmem => 13
  | .smem => 3
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S1024, .f32⟩
  | .hbm, ⟨4, _⟩ => ⟨S1x1024, .f32⟩
  | .hbm, ⟨5, _⟩ => ⟨S1024x1024, .f32⟩
  | .hbm, ⟨6, _⟩ => ⟨S1024x1024, .bf16⟩
  | .hbm, ⟨7, _⟩ => ⟨S4x1x1024, .f32⟩
  | .hbm, ⟨8, _⟩ => ⟨S4x1x1024, .f32⟩
  | .hbm, ⟨9, _⟩ => ⟨S1x128, .f32⟩
  | .hbm, ⟨10, _⟩ => ⟨S4x1024, .f32⟩
  | .hbm, ⟨11, _⟩ => ⟨S4x1024, .f32⟩
  | .hbm, ⟨12, _⟩ => ⟨S1x1, .f32⟩
  | .hbm, ⟨13, _⟩ => ⟨S_, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .bf16⟩
  | .local _ .vmem, ⟨5, _⟩ => ⟨S1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x128, .f32⟩
  | .local _ .vmem, ⟨11, _⟩ => ⟨S8x1024, .f32⟩
  | .local _ .vmem, ⟨12, _⟩ => ⟨S8x1024, .f32⟩
  | .local _ .smem, ⟨0, _⟩ => ⟨S1, .f32⟩
  | .local _ .smem, ⟨1, _⟩ => ⟨S1, .i32⟩
  | .local _ .smem, ⟨2, _⟩ => ⟨S1, .i32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3_0 : Ref sig .tc := ⟨.hbm, 7, rfl⟩
abbrev main_call0_v3_1 : Ref sig .tc := ⟨.hbm, 8, rfl⟩
abbrev main_call0_v3_2 : Ref sig .tc := ⟨.hbm, 9, rfl⟩
abbrev main_v0_0 : Ref sig .tc := ⟨.hbm, 10, rfl⟩
abbrev main_v0_1 : Ref sig .tc := ⟨.hbm, 11, rfl⟩
abbrev main_call0_v6 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch0 : Ref sig .tc := ⟨.smem, 0, rfl⟩
abbrev cc0_scratch1 : Ref sig .tc := ⟨.smem, 1, rfl⟩
abbrev cc0_scratch2 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![4, 2], ![false, false]⟩

def k0_cond4 (i : grid0.Coords) : BitVec 1 :=
  let arg1 : BitVec 32 := BitVec.ofNat 32 (i 1).val
  let c1_i32_30 : BitVec 32 := 1#32
  let v70 : BitVec 1 := Scalar.cmpi .eq arg1 c1_i32_30
  let v71 : BitVec 32 := Scalar.extui v70
  let c0_i32_31 : BitVec 32 := 0#32
  let v72 : BitVec 1 := Scalar.cmpi .ne v71 c0_i32_31
  v72

def k0_off1 (i : grid0.Coords) (v73 : BitVec 32) : Fin 3 → Nat :=
  let arg0 : BitVec 32 := BitVec.ofNat 32 (i 0).val
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c8_i32 : BitVec 32 := 8#32
  let c0_i32_35 : BitVec 32 := 0#32
  let v80 : BitVec 1 := Scalar.cmpi .sgt c8_i32 c0_i32_35
  let v81 : BitVec 32 := Scalar.extui v80
  let c0_i32_36 : BitVec 32 := 0#32
  let v82 : BitVec 1 := Scalar.cmpi .slt c8_i32 c0_i32_36
  let v83 : BitVec 32 := Scalar.extui v82
  let v84 : BitVec 32 := Scalar.subi v81 v83
  let v85 : BitVec 1 := Scalar.cmpi .ne v79 v84
  let v86 : BitVec 32 := Scalar.remsi v73 c8_i32
  let c0_i32_37 : BitVec 32 := 0#32
  let v87 : BitVec 1 := Scalar.cmpi .ne v86 c0_i32_37
  let v88 : BitVec 1 := Scalar.andi v85 v87
  let v74 : BitVec 32 := Scalar.divsi v73 c8_i32
  let c1_i32_38 : BitVec 32 := 1#32
  let v89 : BitVec 32 := Scalar.subi v74 c1_i32_38
  let v90 : BitVec 32 := Scalar.select v88 v89 v74
  let c8_i32_39 : BitVec 32 := 8#32
  let v91 : BitVec 32 := Scalar.muli v90 c8_i32_39
  let c0_i32_40 : BitVec 32 := 0#32
  ![arg0.toNat, v91.toNat, 0]

def k0_off2 (v73 : BitVec 32) : Fin 2 → Nat :=
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c8_i32 : BitVec 32 := 8#32
  let c0_i32_35 : BitVec 32 := 0#32
  let v80 : BitVec 1 := Scalar.cmpi .sgt c8_i32 c0_i32_35
  let v81 : BitVec 32 := Scalar.extui v80
  let c0_i32_36 : BitVec 32 := 0#32
  let v82 : BitVec 1 := Scalar.cmpi .slt c8_i32 c0_i32_36
  let v83 : BitVec 32 := Scalar.extui v82
  let v84 : BitVec 32 := Scalar.subi v81 v83
  let v85 : BitVec 1 := Scalar.cmpi .ne v79 v84
  let v86 : BitVec 32 := Scalar.remsi v73 c8_i32
  let c0_i32_37 : BitVec 32 := 0#32
  let v87 : BitVec 1 := Scalar.cmpi .ne v86 c0_i32_37
  let v88 : BitVec 1 := Scalar.andi v85 v87
  let v74 : BitVec 32 := Scalar.divsi v73 c8_i32
  let c1_i32_38 : BitVec 32 := 1#32
  let v89 : BitVec 32 := Scalar.subi v74 c1_i32_38
  let v90 : BitVec 32 := Scalar.select v88 v89 v74
  let c8_i32_39 : BitVec 32 := 8#32
  let v91 : BitVec 32 := Scalar.muli v90 c8_i32_39
  let v92 : BitVec 32 := Scalar.subi v73 v91
  let v101 : Index := Scalar.indexCast v92
  let c0_44 : Index := 0#32
  ![v101.toNat, 0]
def k0_off3 (v73 : BitVec 32) : Fin 2 → Nat :=
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c8_i32 : BitVec 32 := 8#32
  let c0_i32_35 : BitVec 32 := 0#32
  let v80 : BitVec 1 := Scalar.cmpi .sgt c8_i32 c0_i32_35
  let v81 : BitVec 32 := Scalar.extui v80
  let c0_i32_36 : BitVec 32 := 0#32
  let v82 : BitVec 1 := Scalar.cmpi .slt c8_i32 c0_i32_36
  let v83 : BitVec 32 := Scalar.extui v82
  let v84 : BitVec 32 := Scalar.subi v81 v83
  let v85 : BitVec 1 := Scalar.cmpi .ne v79 v84
  let v86 : BitVec 32 := Scalar.remsi v73 c8_i32
  let c0_i32_37 : BitVec 32 := 0#32
  let v87 : BitVec 1 := Scalar.cmpi .ne v86 c0_i32_37
  let v88 : BitVec 1 := Scalar.andi v85 v87
  let v74 : BitVec 32 := Scalar.divsi v73 c8_i32
  let c1_i32_38 : BitVec 32 := 1#32
  let v89 : BitVec 32 := Scalar.subi v74 c1_i32_38
  let v90 : BitVec 32 := Scalar.select v88 v89 v74
  let c8_i32_39 : BitVec 32 := 8#32
  let v91 : BitVec 32 := Scalar.muli v90 c8_i32_39
  let v92 : BitVec 32 := Scalar.subi v73 v91
  let c1_i32_45 : BitVec 32 := 1#32
  let v103 : BitVec 32 := Scalar.addi v92 c1_i32_45
  let v104 : Index := Scalar.indexCast v103
  let c0_46 : Index := 0#32
  ![v104.toNat, 0]

def k0_chk1 (i : grid0.Coords) (v73 : BitVec 32) : Prop :=
  (∀ (k0_h4 : k0_cond4 i = 1#1), ∀ a, (k0_off1 i v73) a + S1x8x1024.size a ≤ S4x2048x1024.size a) ∧
  (∀ (k0_h4 : k0_cond4 i = 1#1), ∀ a, (k0_off2 v73) a + S1x1024.size a ≤ S8x1024.size a) ∧
  (∀ (k0_h4 : k0_cond4 i = 1#1), ∀ a, (k0_off3 v73) a + S1x1024.size a ≤ S8x1024.size a)
theorem k0_off1_inb : ∀ (i : grid0.Coords) (v73 : BitVec 32) (k0_hw1 : k0_chk1 i v73), ∀ (k0_h4 : k0_cond4 i = 1#1), ∀ a, (k0_off1 i v73) a + S1x8x1024.size a ≤ S4x2048x1024.size a := fun i v73 k0_hw1 k0_h4 => k0_hw1.1 k0_h4
theorem k0_off2_inb : ∀ (i : grid0.Coords) (v73 : BitVec 32) (k0_hw1 : k0_chk1 i v73), ∀ (k0_h4 : k0_cond4 i = 1#1), ∀ a, (k0_off2 v73) a + S1x1024.size a ≤ S8x1024.size a := fun i v73 k0_hw1 k0_h4 => k0_hw1.2.1 k0_h4
theorem k0_off3_inb : ∀ (i : grid0.Coords) (v73 : BitVec 32) (k0_hw1 : k0_chk1 i v73), ∀ (k0_h4 : k0_cond4 i = 1#1), ∀ a, (k0_off3 v73) a + S1x1024.size a ≤ S8x1024.size a := fun i v73 k0_hw1 k0_h4 => k0_hw1.2.2 k0_h4

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S4x1024x1024 : Shape := ⟨3, ![4, 1024, 1024]⟩
abbrev S_ : Shape := ⟨0, ![]⟩
abbrev S4x1024 : Shape := ⟨2, ![4, 1024]⟩
abbrev S4 : Shape := ⟨1, ![4]⟩
abbrev S1x1024 : Shape := ⟨2, ![1, 1024]⟩
abbrev S4x1 : Shape := ⟨2, ![4, 1]⟩
abbrev S1x1x1024 : Shape := ⟨3, ![1, 1, 1024]⟩
abbrev S4x1024x1 : Shape := ⟨3, ![4, 1024, 1]⟩
abbrev S4x2 : Shape := ⟨2, ![4, 2]⟩

abbrev nBuf : Space → Nat
  | .hbm => 80
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S1024, .f32⟩
  | .hbm, ⟨4, _⟩ => ⟨S4x1024x1024, .f32⟩
  | .hbm, ⟨5, _⟩ => ⟨S4x1024x1024, .f32⟩
  | .hbm, ⟨6, _⟩ => ⟨S4x1024x1024, .f32⟩
  | .hbm, ⟨7, _⟩ => ⟨S4x1024x1024, .f32⟩
  | .hbm, ⟨8, _⟩ => ⟨S_, .f32⟩
  | .hbm, ⟨9, _⟩ => ⟨S4x1024, .f32⟩
  | .hbm, ⟨10, _⟩ => ⟨S_, .f32⟩
  | .hbm, ⟨11, _⟩ => ⟨S4x1024, .f32⟩
  | .hbm, ⟨12, _⟩ => ⟨S4x1024, .i1⟩
  | .hbm, ⟨13, _⟩ => ⟨S4x1024, .i32⟩
  | .hbm, ⟨14, _⟩ => ⟨S_, .i32⟩
  | .hbm, ⟨15, _⟩ => ⟨S4, .i32⟩
  | .hbm, ⟨16, _⟩ => ⟨S_, .i32⟩
  | .hbm, ⟨17, _⟩ => ⟨S4, .i32⟩
  | .hbm, ⟨18, _⟩ => ⟨S4, .i32⟩
  | .hbm, ⟨19, _⟩ => ⟨S1024, .i32⟩
  | .hbm, ⟨20, _⟩ => ⟨S1x1024, .i32⟩
  | .hbm, ⟨21, _⟩ => ⟨S4x1, .i32⟩
  | .hbm, ⟨22, _⟩ => ⟨S4x1024, .i32⟩
  | .hbm, ⟨23, _⟩ => ⟨S4x1024, .i32⟩
  | .hbm, ⟨24, _⟩ => ⟨S4x1024, .i1⟩
  | .hbm, ⟨25, _⟩ => ⟨S4x1024, .i1⟩
  | .hbm, ⟨26, _⟩ => ⟨S4x1024, .i1⟩
  | .hbm, ⟨27, _⟩ => ⟨S1024x1024, .f32⟩
  | .hbm, ⟨28, _⟩ => ⟨S4x1024x1024, .f32⟩
  | .hbm, ⟨29, _⟩ => ⟨S4x1024x1024, .f32⟩
  | .hbm, ⟨30, _⟩ => ⟨S1x1x1024, .f32⟩
  | .hbm, ⟨31, _⟩ => ⟨S4x1024x1024, .f32⟩
  | .hbm, ⟨32, _⟩ => ⟨S4x1024x1024, .f32⟩
  | .hbm, ⟨33, _⟩ => ⟨S4x1024x1, .i1⟩
  | .hbm, ⟨34, _⟩ => ⟨S4x1024x1, .f32⟩
  | .hbm, ⟨35, _⟩ => ⟨S4x1024x1024, .f32⟩
  | .hbm, ⟨36, _⟩ => ⟨S4x1024x1024, .f32⟩
  | .hbm, ⟨37, _⟩ => ⟨S4x1024x1024, .f32⟩
  | .hbm, ⟨38, _⟩ => ⟨S4x1024x1024, .f32⟩
  | .hbm, ⟨39, _⟩ => ⟨S4x1024x1024, .f32⟩
  | .hbm, ⟨40, _⟩ => ⟨S4x1024x1024, .f32⟩
  | .hbm, ⟨41, _⟩ => ⟨S_, .f32⟩
  | .hbm, ⟨42, _⟩ => ⟨S_, .f32⟩
  | .hbm, ⟨43, _⟩ => ⟨S4, .i32⟩
  | .hbm, ⟨44, _⟩ => ⟨S_, .i32⟩
  | .hbm, ⟨45, _⟩ => ⟨S4, .i32⟩
  | .hbm, ⟨46, _⟩ => ⟨S4, .i1⟩
  | .hbm, ⟨47, _⟩ => ⟨S_, .i32⟩
  | .hbm, ⟨48, _⟩ => ⟨S4, .i32⟩
  | .hbm, ⟨49, _⟩ => ⟨S4, .i32⟩
  | .hbm, ⟨50, _⟩ => ⟨S4, .i32⟩
  | .hbm, ⟨51, _⟩ => ⟨S_, .i32⟩
  | .hbm, ⟨52, _⟩ => ⟨S4, .i32⟩
  | .hbm, ⟨53, _⟩ => ⟨S4, .i1⟩
  | .hbm, ⟨54, _⟩ => ⟨S_, .i32⟩
  | .hbm, ⟨55, _⟩ => ⟨S4, .i32⟩
  | .hbm, ⟨56, _⟩ => ⟨S4, .i32⟩
  | .hbm, ⟨57, _⟩ => ⟨S4, .i32⟩
  | .hbm, ⟨58, _⟩ => ⟨S4x1, .i32⟩
  | .hbm, ⟨59, _⟩ => ⟨S4x1, .i32⟩
  | .hbm, ⟨60, _⟩ => ⟨S4x2, .i32⟩
  | .hbm, ⟨61, _⟩ => ⟨S4x1024, .f32⟩
  | .hbm, ⟨62, _⟩ => ⟨S_, .i32⟩
  | .hbm, ⟨63, _⟩ => ⟨S4, .i32⟩
  | .hbm, ⟨64, _⟩ => ⟨S4, .i1⟩
  | .hbm, ⟨65, _⟩ => ⟨S_, .i32⟩
  | .hbm, ⟨66, _⟩ => ⟨S4, .i32⟩
  | .hbm, ⟨67, _⟩ => ⟨S4, .i32⟩
  | .hbm, ⟨68, _⟩ => ⟨S4, .i32⟩
  | .hbm, ⟨69, _⟩ => ⟨S_, .i32⟩
  | .hbm, ⟨70, _⟩ => ⟨S4, .i32⟩
  | .hbm, ⟨71, _⟩ => ⟨S4, .i1⟩
  | .hbm, ⟨72, _⟩ => ⟨S_, .i32⟩
  | .hbm, ⟨73, _⟩ => ⟨S4, .i32⟩
  | .hbm, ⟨74, _⟩ => ⟨S4, .i32⟩
  | .hbm, ⟨75, _⟩ => ⟨S4, .i32⟩
  | .hbm, ⟨76, _⟩ => ⟨S4x1, .i32⟩
  | .hbm, ⟨77, _⟩ => ⟨S4x1, .i32⟩
  | .hbm, ⟨78, _⟩ => ⟨S4x2, .i32⟩
  | .hbm, ⟨79, _⟩ => ⟨S4x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_c_3 : Ref sig .tc := ⟨.hbm, 44, rfl⟩
abbrev main_v35 : Ref sig .tc := ⟨.hbm, 45, rfl⟩
abbrev main_v36 : Ref sig .tc := ⟨.hbm, 46, rfl⟩
abbrev main_c_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_5 : Ref sig .tc := ⟨.hbm, 51, rfl⟩
abbrev main_v40 : Ref sig .tc := ⟨.hbm, 52, rfl⟩
abbrev main_v41 : Ref sig .tc := ⟨.hbm, 53, rfl⟩
abbrev main_c_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_7 : Ref sig .tc := ⟨.hbm, 62, rfl⟩
abbrev main_v49 : Ref sig .tc := ⟨.hbm, 63, rfl⟩
abbrev main_v50 : Ref sig .tc := ⟨.hbm, 64, rfl⟩
abbrev main_c_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_9 : Ref sig .tc := ⟨.hbm, 69, rfl⟩
abbrev main_v54 : Ref sig .tc := ⟨.hbm, 70, rfl⟩
abbrev main_v55 : Ref sig .tc := ⟨.hbm, 71, rfl⟩
abbrev main_c_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩

abbrev nD : Nat := 1
abbrev τ : Topo := Topo.v7x

variable {F : FTy → Type} [FloatOps F]
-- ==== Proof.WordsI.lean ====
/-
  The words the body keeps between its two tiles of a batch, as it computes them from a tile of rows: the row mask, how
  many rows the mask holds, and the last of them; and the offsets of the eight row block that holds an even row.
-/
module

public import proofs.«01_k».proof.Proof.Gen.KernelIdeal.Skeleton
public import Idealize.ShloMosaic.Lib.PointwiseCore
public import Idealize.ShloMosaic.Lib.IndicatorCount
public import Idealize.ShloMosaic.Lib.SortNet.Extract
public import Idealize.ShloMosaic.Lib.WordCmp
public import Idealize.ShloMosaic.PureOps.Reduce

@[expose] public section

set_option maxRecDepth 16384

noncomputable section

namespace Cert.KernelIdeal.Hand

open Cert.KernelIdeal Cert.KernelIdeal.Gen
open Idealize.ShloMosaic

variable {F : FTy → Type} [FloatOps F]

/-- The row mask of a tile: the rows of even number whose sum compares unequal to zero. -/
def mk (x : Vec F S1x1024x1024 .f32) : IVec S1024x1 1 := k0_pay8 (k0_pay5 x) 2#32 k0_pay6 k0_pay7

/-- How many rows the mask of a tile holds, as the body's word. -/
def cntT (x : Vec F S1x1024x1024 .f32) : BitVec 32 :=
  extractAt ![0, 0, 0] (k0_pay10 (k0_pay5 x) 2#32 k0_pay6 k0_pay7) inpos_S1x1x1_p0_0_0

/-- The last row the mask of a tile holds, as the body's word. -/
def lastT (x : Vec F S1x1024x1024 .f32) : BitVec 32 :=
  extractAt ![0, 0, 0] (k0_pay11 (iota .tc S1024x1 32 [0] iota_S1024x1_d0_w32) (k0_pay5 x) 2#32 k0_pay6 k0_pay7) inpos_S1x1x1_p0_0_0

/-- Whether the body takes the tile's last row. -/
def Trk (x : Vec F S1x1024x1024 .f32) : Prop := Scalar.cmpi .ne (Scalar.extui (Scalar.cmpi .sgt (cntT x) 0#32)) 0#32 = 1#1
instance (x : Vec F S1x1024x1024 .f32) : Decidable (Trk x) := by unfold Trk; infer_instance

/-- The best row after a tile, from the one before it. -/
def bestN (w : BitVec 32) (x : Vec F S1x1024x1024 .f32) (g : BitVec 32) : BitVec 32 :=
  if Trk x then Scalar.addi (Scalar.muli w 1024#32) (lastT x) else g

/-- The parity test of the row mask, at a row. -/
theorem par : ∀ r : Fin 1024, ∀ v : BitVec 1,
    IntOp.andi v (IntOp.cmpi .eq (if IntOp.andi (IntOp.xori (IntOp.cmpi .slt (IntOp.remsi .vector (BitVec.ofNat 32 r.val) 2#32) 0#32) (IntOp.cmpi .slt 2#32 0#32))
        (IntOp.cmpi .ne (IntOp.remsi .vector (BitVec.ofNat 32 r.val) 2#32) 0#32) = 1#1 then IntOp.addi (IntOp.remsi .vector (BitVec.ofNat 32 r.val) 2#32) 2#32
        else IntOp.remsi .vector (BitVec.ofNat 32 r.val) 2#32) 0#32) = if r.val % 2 = 0 then v else 0#1 := by
  decide +kernel

theorem mk_apply (x : Vec F S1x1024x1024 .f32) (r : Fin 1024) :
    mk x (ix2 r 0) = if r.val % 2 = 0 then k0_pay5 x (ix2 r 0) else 0#1 := by
  have e : k0_pay6 (ix2 r 0) = IntOp.remsi .vector (BitVec.ofNat 32 r.val) 2#32 := by
    unfold k0_pay6
    rw [show Scalar.select (Scalar.cmpi .eq 2#32 0#32) 1#32 2#32 = 2#32 from by decide]
    pointwise []
  rw [← par r (k0_pay5 x (ix2 r 0)), ← e]
  rfl

/-- The rows' vector seen with a leading axis: the same value at the same row. -/
theorem lead {α : Type} (v : S1024x1.Idx → α) (i : S1x1024x1.Idx) :
    shapeCast S1x1024x1 v shapeCasts_S1024x1_S1x1024x1 i = v (ix2 (i 1) 0) := by
  obtain ⟨p, q, r, rfl⟩ : ∃ (p : Fin 1) (q : Fin 1024) (r : Fin 1), i = ix3 p q r := ⟨i 0, i 1, i 2, eq_ix3 i⟩
  pointwise []

/-- A reduction of a whole vector leaves one element: every index goes to it. -/
theorem drop_univ (j : S1.Idx) : (Finset.univ.filter fun i : S1x1024x1.Idx => reduces_S1x1024x1_S1.drop i = j) = Finset.univ := by
  have h1 : Subsingleton S1.Idx := ⟨fun a b => by funext k; fin_cases k; exact Subsingleton.elim (α := Fin 1) _ _⟩
  exact Finset.filter_true_of_mem fun i _ => Subsingleton.elim _ _

/-- The rows as a vector's index set. -/
def rowE : Fin 1024 ≃ S1x1024x1.Idx where
  toFun r := ix3 0 r 0
  invFun i := i 1
  left_inv _ := rfl
  right_inv i := by
    obtain ⟨p, q, r, rfl⟩ : ∃ (p : Fin 1) (q : Fin 1024) (r : Fin 1), i = ix3 p q r := ⟨i 0, i 1, i 2, eq_ix3 i⟩
    rw [Subsingleton.elim p 0, Subsingleton.elim r 0]; rfl

theorem cntT_eq (x : Vec F S1x1024x1024 .f32) :
    cntT x = BitVec.ofNat 32 (Finset.univ.filter fun r : Fin 1024 => mk x (ix2 r 0) = 1#1).card := by
  obtain ⟨j, e⟩ : ∃ j, cntT x = multiReductionI .add [1, 2] S1 (shapeCast S1x1024x1 (extui 32 (mk x) natLt_1_32) shapeCasts_S1024x1_S1x1024x1) 0#32 reduces_S1x1024x1_S1 rfl j :=
    ⟨_, rfl⟩
  refine (e.trans (multiReductionI_eq_fold _ _ _ _ _ _)).trans ?_
  rw [drop_univ, ← Finset.map_univ_equiv rowE, Finset.fold_map]
  refine Eq.trans (congrArg (fun f => Finset.fold IntOp.addi 0#32 f Finset.univ) ?_) (IndicatorCount.fold_addi_setWidth_eq_card (fun r : Fin 1024 => mk x (ix2 r 0)) Finset.univ)
  funext r
  exact lead _ _

/-- The body takes a tile's last row exactly where its mask holds one. -/
theorem trk_iff (x : Vec F S1x1024x1024 .f32) : Trk x ↔ ∃ r : Fin 1024, mk x (ix2 r 0) = 1#1 := by
  have h : ∀ n : Fin 1025, (Scalar.cmpi .ne (Scalar.extui (Scalar.cmpi .sgt (BitVec.ofNat 32 n.val) 0#32)) 0#32 : BitVec 1) = 1#1 ↔ n.val ≠ 0 := by
    decide +kernel
  have hc : (Finset.univ.filter fun r : Fin 1024 => mk x (ix2 r 0) = 1#1).card < 1025 :=
    Nat.lt_succ_of_le ((Finset.card_le_univ _).trans (by rw [Fintype.card_fin]))
  unfold Trk
  rw [cntT_eq]
  have h' : ∀ n, n < 1025 → ((Scalar.cmpi .ne (Scalar.extui (Scalar.cmpi .sgt (BitVec.ofNat 32 n) 0#32)) 0#32 : BitVec 1) = 1#1 ↔ n ≠ 0) := fun n hn => h ⟨n, hn⟩
  refine (h' _ hc).trans (Iff.trans Finset.card_ne_zero ?_)
  exact ⟨fun ⟨r, hr⟩ => ⟨r, (Finset.mem_filter.1 hr).2⟩, fun ⟨r, hr⟩ => ⟨r, Finset.mem_filter.2 ⟨Finset.mem_univ _, hr⟩⟩⟩

/-- The last row of a tile whose mask holds row `r` and none after it. -/
theorem lastT_eq (x : Vec F S1x1024x1024 .f32) (r : Fin 1024) (hr : mk x (ix2 r 0) = 1#1) (hl : ∀ q : Fin 1024, r < q → mk x (ix2 q 0) ≠ 1#1) :
    lastT x = BitVec.ofNat 32 r.val := by
  obtain ⟨j, e⟩ : ∃ j, lastT x = multiReductionI .maxsi [1, 2] S1 (shapeCast S1x1024x1 (select (mk x) (iota .tc S1024x1 32 [0] iota_S1024x1_d0_w32) (broadcast S1024x1 4294967295#32)) shapeCasts_S1024x1_S1x1024x1) 2147483648#32 reduces_S1x1024x1_S1 rfl j :=
    ⟨_, rfl⟩
  refine (e.trans (multiReductionI_eq_fold _ _ _ _ _ _)).trans ?_
  rw [drop_univ, ← Finset.map_univ_equiv rowE, Finset.fold_map]
  have hv : ∀ q : Fin 1024, ((fun q => shapeCast S1x1024x1 (select (mk x) (iota .tc S1024x1 32 [0] iota_S1024x1_d0_w32) (broadcast S1024x1 4294967295#32)) shapeCasts_S1024x1_S1x1024x1 (rowE q)) q)
      = if mk x (ix2 q 0) = 1#1 then BitVec.ofNat 32 q.val else 4294967295#32 := by
    intro q
    refine (lead _ _).trans ?_
    have h0 : iota .tc S1024x1 32 [0] iota_S1024x1_d0_w32 (ix2 q 0) = BitVec.ofNat 32 q.val := by pointwise []
    rw [← h0]; rfl
  obtain ⟨_, h2, h3⟩ := SortNet.fold_maxsi_spec (fun q => shapeCast S1x1024x1 (select (mk x) (iota .tc S1024x1 32 [0] iota_S1024x1_d0_w32) (broadcast S1024x1 4294967295#32)) shapeCasts_S1024x1_S1x1024x1 (rowE q)) Finset.univ 2147483648#32
  have ht : ∀ q : Fin 1024, (BitVec.ofNat 32 q.val).toInt = q.val := by decide +kernel
  have hge := (congrArg BitVec.toInt ((hv r).trans (if_pos hr))).symm.le.trans (h2 r (Finset.mem_univ _))
  rw [ht] at hge
  rcases h3 with h3 | ⟨q, _, h3⟩
  · exfalso
    have : (Finset.fold IntOp.maxsi 2147483648#32 (fun q => shapeCast S1x1024x1 (select (mk x) (iota .tc S1024x1 32 [0] iota_S1024x1_d0_w32) (broadcast S1024x1 4294967295#32)) shapeCasts_S1024x1_S1x1024x1 (rowE q)) Finset.univ).toInt = -2147483648 := by
      rw [h3]; decide
    omega
  · replace h3 := h3.trans (hv q)
    by_cases hq : mk x (ix2 q 0) = 1#1
    · rw [if_pos hq] at h3
      rw [h3, ht] at hge
      have hqr : ¬ r < q := fun h => hl q h hq
      have : q = r := by apply Fin.ext; have := Fin.not_lt.1 hqr; have : q.val ≤ r.val := this; omega
      rw [← this]; exact h3
    · exfalso
      rw [if_neg hq] at h3
      rw [h3] at hge
      have : (4294967295#32 : BitVec 32).toInt = -1 := by decide
      omega

/-- A tile whose mask holds a row has a last one, and it is even. -/
theorem last_row (x : Vec F S1x1024x1024 .f32) (h : Trk x) :
    ∃ r : Fin 1024, r.val % 2 = 0 ∧ mk x (ix2 r 0) = 1#1 ∧ (∀ q : Fin 1024, r < q → mk x (ix2 q 0) ≠ 1#1) ∧ lastT x = BitVec.ofNat 32 r.val := by
  obtain ⟨r0, h0⟩ := (trk_iff x).1 h
  have hne : (Finset.univ.filter fun r : Fin 1024 => mk x (ix2 r 0) = 1#1).Nonempty := ⟨r0, Finset.mem_filter.2 ⟨Finset.mem_univ _, h0⟩⟩
  have hr := (Finset.mem_filter.1 (Finset.max'_mem _ hne)).2
  refine ⟨_, ?_, hr, ?_, lastT_eq x _ hr ?_⟩
  · by_contra hp
    rw [mk_apply, if_neg hp] at hr
    exact absurd hr (by decide)
  all_goals
    intro q hq hm
    exact absurd (Finset.le_max' _ q (Finset.mem_filter.2 ⟨Finset.mem_univ _, hm⟩)) (not_le.2 hq)

/-- The best row's word before any tile and after each: an even row of the batch. -/
theorem best_even (x0 x1 : Vec F S1x1024x1024 .f32) :
    ∃ k : Fin 1024, bestN 1#32 x1 (bestN 0#32 x0 2046#32) = BitVec.ofNat 32 (2 * k.val) := by
  have ha : ∀ t : Fin 2, ∀ r : Fin 1024, Scalar.addi (Scalar.muli (BitVec.ofNat 32 t.val) 1024#32) (BitVec.ofNat 32 r.val) = BitVec.ofNat 32 (1024 * t.val + r.val) := by
    decide +kernel
  unfold bestN
  by_cases h1 : Trk x1
  · obtain ⟨r, he, _, _, hl⟩ := last_row x1 h1
    rw [if_pos h1, hl]
    exact ⟨⟨512 + r.val / 2, by omega⟩, (ha 1 r).trans (congrArg _ (by show 1024 * 1 + r.val = 2 * (512 + r.val / 2); omega))⟩
  · rw [if_neg h1]
    by_cases h0 : Trk x0
    · obtain ⟨r, he, _, _, hl⟩ := last_row x0 h0
      rw [if_pos h0, hl]
      exact ⟨⟨r.val / 2, by omega⟩, (ha 0 r).trans (congrArg _ (by show 1024 * 0 + r.val = 2 * (r.val / 2); omega))⟩
    · rw [if_neg h0]; exact ⟨⟨1023, by omega⟩, rfl⟩

/-- The rows the body reads around an even row of the batch: the eight row block starts at a multiple of eight, and the row and the next one lie in it. -/
theorem rows_at (i : grid0.Coords) (k : Fin 1024) :
    k0_off1 i (BitVec.ofNat 32 (2 * k.val)) = ![(i 0).val, 2 * k.val / 8 * 8, 0]
      ∧ k0_off2 (BitVec.ofNat 32 (2 * k.val)) = ![2 * k.val % 8, 0] ∧ k0_off3 (BitVec.ofNat 32 (2 * k.val)) = ![2 * k.val % 8 + 1, 0] := by
  have h1 : ∀ b : Fin 4, ∀ r s : ℕ, (![(BitVec.ofNat 32 b.val).toNat, r, s] : Fin 3 → ℕ) = ![b.val, r, s] := by
    intro b r s
    have : (BitVec.ofNat 32 b.val).toNat = b.val := by fin_cases b <;> rfl
    rw [this]
  have h2 : ∀ k : Fin 1024, (k0_off1 (fun a => ⟨0, by fin_cases a <;> decide⟩) (BitVec.ofNat 32 (2 * k.val)) 1) = 2 * k.val / 8 * 8
      ∧ k0_off2 (BitVec.ofNat 32 (2 * k.val)) = ![2 * k.val % 8, 0] ∧ k0_off3 (BitVec.ofNat 32 (2 * k.val)) = ![2 * k.val % 8 + 1, 0] := by
    decide +kernel
  refine ⟨?_, (h2 k).2⟩
  rw [← (h2 k).1, ← h1 (i 0)]
  rfl

/-- The block and the two rows lie inside the arrays. -/
theorem chk (i : grid0.Coords) (k : Fin 1024) : k0_chk1 i (BitVec.ofNat 32 (2 * k.val)) := by
  obtain ⟨h1, h2, h3⟩ := rows_at i k
  have hi : (i 0).val < 4 := (i 0).isLt
  refine ⟨fun _ => ?_, fun _ => ?_, fun _ => ?_⟩
  · rw [h1]; intro a; fin_cases a
    · show (i 0).val + 1 ≤ 4; omega
    · show 2 * k.val / 8 * 8 + 8 ≤ 2048; omega
    · show 0 + 1024 ≤ 1024; omega
  · rw [h2]; intro a; fin_cases a
    · show 2 * k.val % 8 + 1 ≤ 8; omega
    · show 0 + 1024 ≤ 1024; omega
  · rw [h3]; intro a; fin_cases a
    · show 2 * k.val % 8 + 1 + 1 ≤ 8; omega
    · show 0 + 1024 ≤ 1024; omega

end Cert.KernelIdeal.Hand

end
-- ==== Proof.BodyI.lean ====
/-
  One run of the kernel body on a batch's second tile: the last row's block is copied in and the results written.
-/
module

public import proofs.«01_k».proof.Proof.WordsI
public import proofs.«01_k».proof.Proof.Gen.KernelIdeal.Points
public import proofs.«01_k».proof.Proof.Gen.KernelIdeal.Launch
public import Idealize.ShloMosaic.Lib.Pipeline.FrameBody
public import Idealize.ShloMosaic.Lib.Pipeline.Regions
public import Idealize.ShloMosaic.Lib.Tactic
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A memref's buffer contents on core `c`; -/
abbrev Bf (c : Dev nD) {sp : Space} {S : Shape} {e : EltTy} (M : Memref sig .tc sp S e) : Type := Buf (Elt F) (M.view.loc (c : Thread nD τ))
/-- and the buffer held at a share. -/
abbrev pt (c : Dev nD) {sp : Space} {S : Shape} {e : EltTy} (M : Memref sig .tc sp S e) (q : PosShare TreeShare) (f : Bf (F := F) c M) : sProp 𝕄 :=
  M.view.loc (c : Thread nD τ) ↦{q} f
/-- A memref held whole, reading `X`. -/
abbrev rd (c : Dev nD) {sp : Space} {S : Shape} {e : EltTy} (M : Memref sig .tc sp S e) (X : S.Idx → Elt F e) : sProp 𝕄 :=
  iprop(∃ f : Bf (F := F) c M, ⌜M.view.read (Elt F) f = X⌝ ∗ pt c M fullShare f)

/-- The running sum after a tile. -/
def accN (x e : Vec F S1x1024x1024 .f32) (w : Vec F S1024x1024 .bf16) (b : Vec F S1x1024 .f32) (a : F .f32) : F .f32 :=
  k0_pay9 (k0_pay4 x e w b) (k0_pay5 x) 2#32 k0_pay6 k0_pay7 a

/-- Row `r` of batch `b` of an array. -/
def row (A : Vec F S4x2048x1024 .f32) (b : Fin 4) (r : Fin 2048) : Vec F S1x1024 .f32 := fun j => A (ix3 b r (j 1))

/-- The body's fallback: the last even row of a batch. -/
abbrev g₀ : BitVec 32 := 2046#32
/-- The running sum's start. -/
abbrev a₀ : F .f32 := Scalar.ofBits .f32 0x00000000#32

/-- Bounds at a word that is an even row. -/
theorem chk_of (i : grid0.Coords) {g : BitVec 32} (k : Fin 1024) (hg : g = BitVec.ofNat 32 (2 * k.val)) : k0_chk1 i g := by
  subst hg; exact chk i k

/-- The best row's word just stored reads back. -/
theorem best_word (c : Dev nD) (f : Bf (F := F) c (Memref.whole cc0_scratch2)) (v : BitVec 32) (j : (Rect.unit (s := S1) ![0] S1.size inb_S1_S1_0).shape.Idx) :
    (Memref.whole cc0_scratch2).view.readAt (Elt F) (Rect.unit (s := S1) ![0] S1.size inb_S1_S1_0).toLoadRect
      ((Memref.whole cc0_scratch2).view.writes (Elt F) f [⟨Rect.unit (s := S1) ![0] S1.size inb_S1_S1_0, fun _ => v⟩]) j = v :=
  congrFun (View.readAt_writes_full (Memref.whole cc0_scratch2).view f inb_S1_S1_0 inb_S1_S1_0 (fun _ => v) []) j

/-- A row of the eight row block copied in from an array, loaded from the block's buffer: the array's row. -/
theorem row_read (S : Memref sig .tc .vmem S8x1024 .f32) (M : Memref sig .tc .hbm S4x2048x1024 .f32)
    (f : S.view.ty.Contents (Elt F)) (A : M.view.ty.Contents (Elt F))
    {o1 : Fin 3 → ℕ} {o2 : Fin 2 → ℕ} (b : Fin 4) (p q : ℕ) (hp : p + 8 ≤ 2048) (hq : q < 8) (h1 : o1 = ![b.val, p, 0]) (h2 : o2 = ![q, 0])
    (i1 : ∀ a, o1 a + S1x8x1024.size a ≤ S4x2048x1024.size a) (i2 : ∀ a, o2 a + S1x1024.size a ≤ S8x1024.size a)
    (hs : ∀ a, (Rect.unit (s := S4x2048x1024) o1 S1x8x1024.size i1).stride a = 1) :
    S.view.readAt (Elt F) (Rect.unit (s := S8x1024) o2 S1x1024.size i2).toLoadRect
      (S.view.write (Elt F) f ((ReadAs.same (Val := Elt F)).apply (((M.slice (Rect.unit (s := S4x2048x1024) o1 S1x8x1024.size i1) hs).squeeze S8x1024 squeezes_S1x8x1024_S8x1024).view.read (Elt F) A)) Finset.univ)
      = row (M.view.read (Elt F) A) b ⟨p + q, by omega⟩ := by
  subst h1 h2
  rw [View.readAt_unit _ _ _ rfl i2, View.read_write_univ]
  funext j
  obtain ⟨j0, j1, rfl⟩ : ∃ (j0 : Fin 1) (j1 : Fin 1024), j = ix2 j0 j1 := ⟨j 0, j 1, eq_ix2 j⟩
  have hc : S1x8x1024.ShapeCasts S8x1024 := by decide
  have e1 : ((M.slice (Rect.unit (s := S4x2048x1024) ![b.val, p, 0] S1x8x1024.size i1) hs).squeeze S8x1024 squeezes_S1x8x1024_S8x1024).view.read (Elt F) A
      = shapeCast S8x1024 (M.view.readAt (Elt F) (Rect.unit (s := S4x2048x1024) ![b.val, p, 0] S1x8x1024.size i1).toLoadRect A) hc := rfl
  have e2 : (Rect.unit (s := S8x1024) ![q, 0] S1x1024.size i2).emb (ix2 j0 j1) = ix2 ⟨q, hq⟩ j1 := by
    funext a; apply Fin.ext; fin_cases a
    · show q + 1 * j0.val = q; omega
    · show 0 + 1 * j1.val = j1.val; omega
  unfold VecWindow.window
  rw [e2]
  show ((M.slice (Rect.unit (s := S4x2048x1024) ![b.val, p, 0] S1x8x1024.size i1) hs).squeeze S8x1024 squeezes_S1x8x1024_S8x1024).view.read (Elt F) A (ix2 ⟨q, hq⟩ j1) = _
  rw [e1, View.readAt_unit _ _ _ rfl i1]
  have e3 : ∀ v : S1x8x1024.Idx → Elt F .f32, shapeCast S8x1024 v hc (ix2 (⟨q, hq⟩ : Fin 8) j1) = v (ix3 0 ⟨q, hq⟩ j1) := by
    intro v; pointwise []
  refine (e3 _).trans ?_
  unfold VecWindow.window row
  refine congrArg (M.view.read (Elt F) A) ?_
  funext a; apply Fin.ext; fin_cases a
  · show b.val + 1 * 0 = b.val; omega
  · show p + 1 * q = p + q; omega
  · show 0 + 1 * j1.val = j1.val; omega

theorem runOdd (c : Dev nD) (i : grid0.Coords)
    (M2 : Memref sig .tc .vmem S1x1024x1024 .f32) (h2 : M2.IsWhole) (M3 : Memref sig .tc .vmem S1x1024x1024 .f32) (h3 : M3.IsWhole)
    (M4 : Memref sig .tc .vmem S1024x1024 .bf16) (h4 : M4.IsWhole) (M5 : Memref sig .tc .vmem S1x1024 .f32) (h5 : M5.IsWhole)
    (M8 : Memref sig .tc .vmem S1x1x1024 .f32) (h8 : M8.IsWhole) (M9 : Memref sig .tc .vmem S1x1x1024 .f32) (h9 : M9.IsWhole)
    (M10 : Memref sig .tc .vmem S1x128 .f32) (h10 : M10.IsWhole)
    (hc1 : ¬ k0_cond1 i = 1#1) (hc4 : k0_cond4 i = 1#1)
    (hc2 : ¬ Scalar.cmpi .ne (Scalar.extui (Scalar.cmpi .eq (BitVec.ofNat 32 (i 1).val) 0#32)) 0#32 = 1#1)
    (q6 q7 : PosShare TreeShare)
    (x e : Vec F S1x1024x1024 .f32) (w : Vec F S1024x1024 .bf16) (b : Vec F S1x1024 .f32) (l : Vec F S1x128 .f32)
    (f2 : Bf (F := F) c M2) (f3 : Bf (F := F) c M3) (f4 : Bf (F := F) c M4) (f5 : Bf (F := F) c M5)
    (f6 : Bf (F := F) c (Memref.whole main_arg0)) (f7 : Bf (F := F) c (Memref.whole main_arg1))
    (f8 : Bf (F := F) c M8) (f9 : Bf (F := F) c M9) (f10 : Bf (F := F) c M10)
    (e2 : M2.view.read (Elt F) f2 = x) (e3 : M3.view.read (Elt F) f3 = e) (e4 : M4.view.read (Elt F) f4 = w) (e5 : M5.view.read (Elt F) f5 = b)
    (e10 : M10.view.read (Elt F) f10 = l)
    (a : F .f32) (n g : BitVec 32)
    (f14 : Bf (F := F) c (Memref.whole cc0_scratch3)) (f15 : Bf (F := F) c (Memref.whole cc0_scratch4))
    (k : Fin 1024) (hk : bestN (BitVec.ofNat 32 (i 1).val) x g = BitVec.ofNat 32 (2 * k.val))
    (W : Waits sig Unit) (Q : PUnit → sProp 𝕄) :
    iprop(pt c M2 fullShare f2 ∗ pt c M3 fullShare f3 ∗ pt c M4 fullShare f4 ∗ pt c M5 fullShare f5
      ∗ pt c (Memref.whole main_arg0) q6 f6 ∗ pt c (Memref.whole main_arg1) q7 f7
      ∗ pt c M8 fullShare f8 ∗ pt c M9 fullShare f9 ∗ pt c M10 fullShare f10
      ∗ pt c (Memref.whole cc0_scratch0) fullShare (fun _ => a) ∗ pt c (Memref.whole cc0_scratch1) fullShare (fun _ => n) ∗ pt c (Memref.whole cc0_scratch2) fullShare (fun _ => g)
      ∗ pt c (Memref.whole cc0_scratch3) fullShare f14 ∗ pt c (Memref.whole cc0_scratch4) fullShare f15
      ∗ semVal ((c : Thread nD τ), SemLoc.dma 11) 0 ∗ semVal ((c : Thread nD τ), SemLoc.dma 12) 0 ∗ owes (c : Thread nD τ) 0 W
      ∗ (iprop(rd c M2 x ∗ rd c M3 e ∗ rd c M4 w ∗ rd c M5 b
          ∗ pt c (Memref.whole main_arg0) q6 f6 ∗ pt c (Memref.whole main_arg1) q7 f7
          ∗ rd c M8 (k0_pay13 (row f6 (i 0) ⟨2 * k.val, by omega⟩) (k0_pay1 (row f7 (i 0) ⟨2 * k.val + 1, by omega⟩)) w b)
          ∗ rd c M9 (k0_pay14 (row f6 (i 0) ⟨2 * k.val + 1, by omega⟩))
          ∗ rd c M10 (k0_pay15 (row f6 (i 0) ⟨2 * k.val, by omega⟩) (row f6 (i 0) ⟨2 * k.val + 1, by omega⟩)
              (k0_pay1 (row f7 (i 0) ⟨2 * k.val + 1, by omega⟩)) w b (Scalar.addi n (cntT x)) l (accN x e w b a))
          ∗ (∃ f, pt c (Memref.whole cc0_scratch0) fullShare f) ∗ (∃ f, pt c (Memref.whole cc0_scratch1) fullShare f) ∗ (∃ f, pt c (Memref.whole cc0_scratch2) fullShare f)
          ∗ (∃ f, pt c (Memref.whole cc0_scratch3) fullShare f) ∗ (∃ f, pt c (Memref.whole cc0_scratch4) fullShare f)
          ∗ semVal ((c : Thread nD τ), SemLoc.dma 11) 0 ∗ semVal ((c : Thread nD τ), SemLoc.dma 12) 0 ∗ (∃ W', owes (c : Thread nD τ) 0 W')) -∗ Q ⟨⟩))
    ⊢ wp frame (wpE (defs₀ (F := F)) Variants.none c none) Set.univ
        (cc0__flow_kernel i M2 h2 M3 h3 M4 h4 M5 h5 (Memref.whole main_arg0) (Memref.isWhole_whole _) (Memref.whole main_arg1) (Memref.isWhole_whole _) M8 h8 M9 h9 M10 h10
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) cc0_scratch5 cc0_scratch6) Q := by
  iintro ⟨H2, H3, H4, H5, H6, H7, H8, H9, H10, H11, H12, H13, H14, H15, HS0, HS1, HO, HQ⟩
  rw [cc0__flow_kernel_eq_skeleton]; unfold cc0__flow_kernel_skel
  rw [k0_part3_eq_skeleton]; unfold k0_part3_skel
  rw [k0_part2_eq_skeleton]; unfold k0_part2_skel
  rw [k0_part1_eq_skeleton]; unfold k0_part1_skel
  sl_exec (disch := first | sl_exact hc1 | sl_exact hc2 | sl_exact hc4)
  have hx : M2.view.readAt (Elt F) (Rect.unit ![0, 0, 0] S1x1024x1024.size inb_S1x1024x1024_S1x1024x1024_0_0_0).toLoadRect f2 = x :=
    (View.readAt_full _ _ _).trans e2
  have hr : runOdd.sl.r_3 c i M2 f2 g = BitVec.ofNat 32 (2 * k.val) := by
    have hv : (runOdd.sl.v69 c M2 f2 = 1#1) = Trk x := by rw [← hx]; rfl
    have hw : runOdd.sl.v80 c i M2 f2 = Scalar.addi (Scalar.muli (BitVec.ofNat 32 (i 1).val) 1024#32) (lastT x) := by rw [← hx]; rfl
    rw [← hk]; unfold bestN
    unfold runOdd.sl.r_3 runOdd.sl.f
    by_cases hT : runOdd.sl.v69 c M2 f2 = 1#1
    · rw [dif_pos hT, if_pos (hv ▸ hT), hw]; exact best_word c _ _ _
    · rw [dif_neg hT, if_neg (hv ▸ hT)]; rfl
  have hchk : k0_chk1 i (runOdd.sl.r_3 c i M2 f2 g) := chk_of i k hr
  sl_exec (disch := first | sl_exact hc1 | sl_exact hc2 | sl_exact hc4 | with_reducible exact hchk)
  obtain ⟨o1, o2, o3⟩ := rows_at i k
  rw [← hr] at o1 o2 o3
  have hkl := k.isLt
  have r2 : 2 * k.val / 8 * 8 + 2 * k.val % 8 = 2 * k.val := by omega
  have r3 : 2 * k.val / 8 * 8 + (2 * k.val % 8 + 1) = 2 * k.val + 1 := by omega
  have h102 : runOdd.sl.v102 c i M2 hc4 f2 f6 g f14 hchk = row f6 (i 0) ⟨2 * k.val, by omega⟩ :=
    (row_read (Memref.whole cc0_scratch3) (Memref.whole main_arg0) f14 f6 (i 0) (2 * k.val / 8 * 8) (2 * k.val % 8) (by omega) (by omega) o1 o2 _ _ _).trans
      (congrArg (row (F := F) f6 (i 0)) (Fin.ext r2))
  have h105 : runOdd.sl.v105 c i M2 hc4 f2 f6 g f14 hchk = row f6 (i 0) ⟨2 * k.val + 1, by omega⟩ :=
    (row_read (Memref.whole cc0_scratch3) (Memref.whole main_arg0) f14 f6 (i 0) (2 * k.val / 8 * 8) (2 * k.val % 8 + 1) (by omega) (by omega) o1 o3 _ _ _).trans
      (congrArg (row (F := F) f6 (i 0)) (Fin.ext r3))
  have h108 : runOdd.sl.v108 c i M2 hc4 f2 f7 g f15 hchk = row f7 (i 0) ⟨2 * k.val + 1, by omega⟩ :=
    (row_read (Memref.whole cc0_scratch4) (Memref.whole main_arg1) f15 f7 (i 0) (2 * k.val / 8 * 8) (2 * k.val % 8 + 1) (by omega) (by omega) o1 o3 _ _ _).trans
      (congrArg (row (F := F) f7 (i 0)) (Fin.ext r3))
  have h3' : M3.view.readAt (Elt F) (Rect.unit ![0, 0, 0] S1x1024x1024.size inb_S1x1024x1024_S1x1024x1024_0_0_0).toLoadRect f3 = e :=
    (View.readAt_full _ _ _).trans e3
  have h4' : M4.view.readAt (Elt F) (Rect.unit ![0, 0] S1024x1024.size inb_S1024x1024_S1024x1024_0_0).toLoadRect f4 = w := (View.readAt_full _ _ _).trans e4
  have h5' : M5.view.readAt (Elt F) (Rect.unit ![0, 0] S1x1024.size inb_S1x1024_S1x1024_0_0).toLoadRect f5 = b := (View.readAt_full _ _ _).trans e5
  have h10' : M10.view.readAt (Elt F) (Rect.unit ![0, 0] S1x128.size inb_S1x128_S1x128_0_0).toLoadRect f10 = l := (View.readAt_full _ _ _).trans e10
  have hn : runOdd.sl.v65 c M2 f2 n = Scalar.addi n (cntT x) := by rw [← hx]; rfl
  have ha : runOdd.sl.r_4 c M2 M3 M4 M5 f2 f3 f4 f5 a = accN x e w b a := by
    rw [← hx, ← h3', ← h4', ← h5']; rfl
  rw [h102, h105, h108, h4', h5', h10', hn, ha]
  sl_step
  iapply HQ
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexact H6
  isplitl [H7]; · iexact H7
  isplitl [H8]; · iexists _; isplitr; swap; · iexact H8
                  ipureintro; exact View.read_writes_full _ _ _ _ _
  isplitl [H9]; · iexists _; isplitr; swap; · iexact H9
                  ipureintro; exact View.read_writes_full _ _ _ _ _
  isplitl [H10]; · iexists _; isplitr; swap; · iexact H10
                   ipureintro; exact View.read_writes_full _ _ _ _ _
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  isplitl [HS1]; · iexact HS1
  iexists _; iexact HO

end Cert.KernelIdeal.Hand

end
-- ==== Proof.EvenI.lean ====
/-
  One run of the kernel body on a batch's first tile: the running words are set first, and at the first point the loss block.
-/
module

public import proofs.«01_k».proof.Proof.BodyI
public import proofs.«01_k».proof.Proof.Gen.KernelIdeal.Points
public import proofs.«01_k».proof.Proof.Gen.KernelIdeal.Launch
public import Idealize.ShloMosaic.Lib.Pipeline.FrameBody
public import Idealize.ShloMosaic.Lib.Pipeline.Regions
public import Idealize.ShloMosaic.Lib.Tactic
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem runEven (c : Dev nD) (i : grid0.Coords)
    (M2 : Memref sig .tc .vmem S1x1024x1024 .f32) (h2 : M2.IsWhole) (M3 : Memref sig .tc .vmem S1x1024x1024 .f32) (h3 : M3.IsWhole)
    (M4 : Memref sig .tc .vmem S1024x1024 .bf16) (h4 : M4.IsWhole) (M5 : Memref sig .tc .vmem S1x1024 .f32) (h5 : M5.IsWhole)
    (M8 : Memref sig .tc .vmem S1x1x1024 .f32) (h8 : M8.IsWhole) (M9 : Memref sig .tc .vmem S1x1x1024 .f32) (h9 : M9.IsWhole)
    (M10 : Memref sig .tc .vmem S1x128 .f32) (h10 : M10.IsWhole)
    (hc1 : ¬ k0_cond1 i = 1#1) (hc4 : ¬ k0_cond4 i = 1#1)
    (hc2 : Scalar.cmpi .ne (Scalar.extui (Scalar.cmpi .eq (BitVec.ofNat 32 (i 1).val) 0#32)) 0#32 = 1#1)
    (x e : Vec F S1x1024x1024 .f32) (w : Vec F S1024x1024 .bf16) (b : Vec F S1x1024 .f32)
    (f2 : Bf (F := F) c M2) (f3 : Bf (F := F) c M3) (f4 : Bf (F := F) c M4) (f5 : Bf (F := F) c M5)
    (f10 : Bf (F := F) c M10)
    (e2 : M2.view.read (Elt F) f2 = x) (e3 : M3.view.read (Elt F) f3 = e) (e4 : M4.view.read (Elt F) f4 = w) (e5 : M5.view.read (Elt F) f5 = b)
    (f11 : Bf (F := F) c (Memref.whole cc0_scratch0)) (f12 : Bf (F := F) c (Memref.whole cc0_scratch1)) (f13 : Bf (F := F) c (Memref.whole cc0_scratch2))
    (W : Waits sig Unit) (Q : PUnit → sProp 𝕄) :
    iprop(pt c M2 fullShare f2 ∗ pt c M3 fullShare f3 ∗ pt c M4 fullShare f4 ∗ pt c M5 fullShare f5
      ∗ pt c M10 fullShare f10
      ∗ pt c (Memref.whole cc0_scratch0) fullShare f11 ∗ pt c (Memref.whole cc0_scratch1) fullShare f12 ∗ pt c (Memref.whole cc0_scratch2) fullShare f13
      ∗ owes (c : Thread nD τ) 0 W
      ∗ (iprop(rd c M2 x ∗ rd c M3 e ∗ rd c M4 w ∗ rd c M5 b
          ∗ pt c M10 fullShare f10
          ∗ rd c (Memref.whole cc0_scratch0) (fun _ => accN x e w b a₀) ∗ rd c (Memref.whole cc0_scratch1) (fun _ => Scalar.addi 0#32 (cntT x))
          ∗ rd c (Memref.whole cc0_scratch2) (fun _ => bestN (BitVec.ofNat 32 (i 1).val) x g₀)
          ∗ (∃ W', owes (c : Thread nD τ) 0 W')) -∗ Q ⟨⟩))
    ⊢ wp frame (wpE (defs₀ (F := F)) Variants.none c none) Set.univ
        (cc0__flow_kernel i M2 h2 M3 h3 M4 h4 M5 h5 (Memref.whole main_arg0) (Memref.isWhole_whole _) (Memref.whole main_arg1) (Memref.isWhole_whole _) M8 h8 M9 h9 M10 h10
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) cc0_scratch5 cc0_scratch6) Q := by
  iintro ⟨H2, H3, H4, H5, H10, H11, H12, H13, HO, HQ⟩
  rw [cc0__flow_kernel_eq_skeleton]; unfold cc0__flow_kernel_skel
  rw [k0_part3_eq_skeleton]; unfold k0_part3_skel
  rw [k0_part2_eq_skeleton]; unfold k0_part2_skel
  have hx : M2.view.readAt (Elt F) (Rect.unit ![0, 0, 0] S1x1024x1024.size inb_S1x1024x1024_S1x1024x1024_0_0_0).toLoadRect f2 = x :=
    (View.readAt_full _ _ _).trans e2
  have h3' : M3.view.readAt (Elt F) (Rect.unit ![0, 0, 0] S1x1024x1024.size inb_S1x1024x1024_S1x1024x1024_0_0_0).toLoadRect f3 = e :=
    (View.readAt_full _ _ _).trans e3
  have h4' : M4.view.readAt (Elt F) (Rect.unit ![0, 0] S1024x1024.size inb_S1024x1024_S1024x1024_0_0).toLoadRect f4 = w := (View.readAt_full _ _ _).trans e4
  have h5' : M5.view.readAt (Elt F) (Rect.unit ![0, 0] S1x1024.size inb_S1x1024_S1x1024_0_0).toLoadRect f5 = b := (View.readAt_full _ _ _).trans e5
  sl_exec (disch := first | sl_exact hc1 | sl_exact hc2 | sl_exact hc4)
  sl_step
  iapply HQ
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H10]; · iexact H10
  isplitl [H11]; · iexists _; isplitr; swap; · iexact H11
                   ipureintro
                   refine (View.read_writes_full _ _ _ _ _).trans ?_
                   rw [← hx, ← h3', ← h4', ← h5']; rfl
  isplitl [H12]; · iexists _; isplitr; swap; · iexact H12
                   ipureintro
                   refine (View.read_writes_full _ _ _ _ _).trans ?_
                   rw [← hx]; rfl
  isplitl [H13]; · iexists _; isplitr; swap; · iexact H13
                   ipureintro
                   unfold bestN
                   by_cases hT : runEven.sl.v69 x = 1#1
                   · rw [dif_pos hT, if_pos (show Trk x from hT)]; exact View.read_writes_full _ _ _ _ _
                   · rw [dif_neg hT, if_neg (show ¬ Trk x from hT)]; exact View.read_writes_full _ _ _ _ _
  iexists _; iexact HO

theorem runFirst (c : Dev nD) (i : grid0.Coords)
    (M2 : Memref sig .tc .vmem S1x1024x1024 .f32) (h2 : M2.IsWhole) (M3 : Memref sig .tc .vmem S1x1024x1024 .f32) (h3 : M3.IsWhole)
    (M4 : Memref sig .tc .vmem S1024x1024 .bf16) (h4 : M4.IsWhole) (M5 : Memref sig .tc .vmem S1x1024 .f32) (h5 : M5.IsWhole)
    (M8 : Memref sig .tc .vmem S1x1x1024 .f32) (h8 : M8.IsWhole) (M9 : Memref sig .tc .vmem S1x1x1024 .f32) (h9 : M9.IsWhole)
    (M10 : Memref sig .tc .vmem S1x128 .f32) (h10 : M10.IsWhole)
    (hc1 : k0_cond1 i = 1#1) (hc4 : ¬ k0_cond4 i = 1#1)
    (hc2 : Scalar.cmpi .ne (Scalar.extui (Scalar.cmpi .eq (BitVec.ofNat 32 (i 1).val) 0#32)) 0#32 = 1#1)
    (x e : Vec F S1x1024x1024 .f32) (w : Vec F S1024x1024 .bf16) (b : Vec F S1x1024 .f32)
    (f2 : Bf (F := F) c M2) (f3 : Bf (F := F) c M3) (f4 : Bf (F := F) c M4) (f5 : Bf (F := F) c M5)
    (f10 : Bf (F := F) c M10)
    (e2 : M2.view.read (Elt F) f2 = x) (e3 : M3.view.read (Elt F) f3 = e) (e4 : M4.view.read (Elt F) f4 = w) (e5 : M5.view.read (Elt F) f5 = b)
    (f11 : Bf (F := F) c (Memref.whole cc0_scratch0)) (f12 : Bf (F := F) c (Memref.whole cc0_scratch1)) (f13 : Bf (F := F) c (Memref.whole cc0_scratch2))
    (W : Waits sig Unit) (Q : PUnit → sProp 𝕄) :
    iprop(pt c M2 fullShare f2 ∗ pt c M3 fullShare f3 ∗ pt c M4 fullShare f4 ∗ pt c M5 fullShare f5
      ∗ pt c M10 fullShare f10
      ∗ pt c (Memref.whole cc0_scratch0) fullShare f11 ∗ pt c (Memref.whole cc0_scratch1) fullShare f12 ∗ pt c (Memref.whole cc0_scratch2) fullShare f13
      ∗ owes (c : Thread nD τ) 0 W
      ∗ (iprop(rd c M2 x ∗ rd c M3 e ∗ rd c M4 w ∗ rd c M5 b
          ∗ rd c M10 k0_pay2
          ∗ rd c (Memref.whole cc0_scratch0) (fun _ => accN x e w b a₀) ∗ rd c (Memref.whole cc0_scratch1) (fun _ => Scalar.addi 0#32 (cntT x))
          ∗ rd c (Memref.whole cc0_scratch2) (fun _ => bestN (BitVec.ofNat 32 (i 1).val) x g₀)
          ∗ (∃ W', owes (c : Thread nD τ) 0 W')) -∗ Q ⟨⟩))
    ⊢ wp frame (wpE (defs₀ (F := F)) Variants.none c none) Set.univ
        (cc0__flow_kernel i M2 h2 M3 h3 M4 h4 M5 h5 (Memref.whole main_arg0) (Memref.isWhole_whole _) (Memref.whole main_arg1) (Memref.isWhole_whole _) M8 h8 M9 h9 M10 h10
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) cc0_scratch5 cc0_scratch6) Q := by
  iintro ⟨H2, H3, H4, H5, H10, H11, H12, H13, HO, HQ⟩
  rw [cc0__flow_kernel_eq_skeleton]; unfold cc0__flow_kernel_skel
  rw [k0_part3_eq_skeleton]; unfold k0_part3_skel
  rw [k0_part2_eq_skeleton]; unfold k0_part2_skel
  have hx : M2.view.readAt (Elt F) (Rect.unit ![0, 0, 0] S1x1024x1024.size inb_S1x1024x1024_S1x1024x1024_0_0_0).toLoadRect f2 = x :=
    (View.readAt_full _ _ _).trans e2
  have h3' : M3.view.readAt (Elt F) (Rect.unit ![0, 0, 0] S1x1024x1024.size inb_S1x1024x1024_S1x1024x1024_0_0_0).toLoadRect f3 = e :=
    (View.readAt_full _ _ _).trans e3
  have h4' : M4.view.readAt (Elt F) (Rect.unit ![0, 0] S1024x1024.size inb_S1024x1024_S1024x1024_0_0).toLoadRect f4 = w := (View.readAt_full _ _ _).trans e4
  have h5' : M5.view.readAt (Elt F) (Rect.unit ![0, 0] S1x1024.size inb_S1x1024_S1x1024_0_0).toLoadRect f5 = b := (View.readAt_full _ _ _).trans e5
  sl_exec (disch := first | sl_exact hc1 | sl_exact hc2 | sl_exact hc4)
  sl_step
  iapply HQ
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H10]; · iexists _; isplitr; swap; · iexact H10
                   ipureintro; exact View.read_writes_full _ _ _ _ _
  isplitl [H11]; · iexists _; isplitr; swap; · iexact H11
                   ipureintro
                   refine (View.read_writes_full _ _ _ _ _).trans ?_
                   rw [← hx, ← h3', ← h4', ← h5']; rfl
  isplitl [H12]; · iexists _; isplitr; swap; · iexact H12
                   ipureintro
                   refine (View.read_writes_full _ _ _ _ _).trans ?_
                   rw [← hx]; rfl
  isplitl [H13]; · iexists _; isplitr; swap; · iexact H13
                   ipureintro
                   unfold bestN
                   by_cases hT : runFirst.sl.v69 x = 1#1
                   · rw [dif_pos hT, if_pos (show Trk x from hT)]; exact View.read_writes_full _ _ _ _ _
                   · rw [dif_neg hT, if_neg (show ¬ Trk x from hT)]; exact View.read_writes_full _ _ _ _ _
  iexists _; iexact HO

end Cert.KernelIdeal.Hand

end
-- ==== Proof.DataI.lean ====
/-
  The pipeline's proof data: what each staging buffer holds after each point, the state between points, and the
  body's obligation at every point.
-/
module

public import proofs.«01_k».proof.Proof.EvenI
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-! ## What the run computes, by batch -/

/-- Point `n` of the grid, counted round. -/
def pN (n : ℕ) : Fin cfg0.N := ⟨n % 8, by rw [show cfg0.N = 8 from N_0]; omega⟩
theorem t_lt (t : Fin cfg0.N) : t.val < 8 := Nat.lt_of_lt_of_eq t.isLt N_0
theorem pN_val (t : Fin cfg0.N) : pN t.val = t := Fin.ext (Nat.mod_eq_of_lt (t_lt t))

/-- Point `n`'s blocks: the questions' tile, -/
def xB (n : ℕ) : Vec F S1x1024x1024 .f32 := iblk m c 0 (pN n)
/-- the embeddings' tile, -/
def eB (n : ℕ) : Vec F S1x1024x1024 .f32 := iblk m c 1 (pN n)
/-- the weights -/
def wB (n : ℕ) : Vec F S1024x1024 .bf16 := iblk m c 2 (pN n)
/-- and the bias. -/
def bB (n : ℕ) : Vec F S1x1024 .f32 := iblk m c 3 (pN n)

theorem xB_of {n : ℕ} {t : Fin cfg0.N} (h : t.val = n) : xB m c n = iblk m c 0 t := by subst h; unfold xB; rw [pN_val]
theorem eB_of {n : ℕ} {t : Fin cfg0.N} (h : t.val = n) : eB m c n = iblk m c 1 t := by subst h; unfold eB; rw [pN_val]
theorem wB_of {n : ℕ} {t : Fin cfg0.N} (h : t.val = n) : wB m c n = iblk m c 2 t := by subst h; unfold wB; rw [pN_val]
theorem bB_of {n : ℕ} {t : Fin cfg0.N} (h : t.val = n) : bB m c n = iblk m c 3 t := by subst h; unfold bB; rw [pN_val]

/-- Batch `b`'s last marked row, halved. -/
def kB (b : ℕ) : Fin 1024 := Classical.choose (best_even (xB m c (2 * b)) (xB m c (2 * b + 1)))
theorem kB_spec (b : ℕ) : bestN 1#32 (xB m c (2 * b + 1)) (bestN 0#32 (xB m c (2 * b)) g₀) = BitVec.ofNat 32 (2 * (kB m c b).val) :=
  Classical.choose_spec (best_even (xB m c (2 * b)) (xB m c (2 * b + 1)))
/-- The sum of batch `b`'s squares after its first tile -/
def aE (b : ℕ) : F .f32 := accN (xB m c (2 * b)) (eB m c (2 * b)) (wB m c (2 * b)) (bB m c (2 * b)) a₀
/-- and after both. -/
def aB (b : ℕ) : F .f32 := accN (xB m c (2 * b + 1)) (eB m c (2 * b + 1)) (wB m c (2 * b + 1)) (bB m c (2 * b + 1)) (aE m c b)
/-- The number of batch `b`'s marked rows. -/
def nB (b : ℕ) : BitVec 32 := Scalar.addi (Scalar.addi 0#32 (cntT (xB m c (2 * b)))) (cntT (xB m c (2 * b + 1)))
/-- Batch `b` as an index. -/
def bF (b : ℕ) : Fin 4 := ⟨b % 4, by omega⟩
/-- The question's row, -/
def qR (b : ℕ) : Vec F S1x1024 .f32 := row (V m c main_arg0) (bF b) ⟨2 * (kB m c b).val, by omega⟩
/-- the answer's -/
def aR (b : ℕ) : Vec F S1x1024 .f32 := row (V m c main_arg0) (bF b) ⟨2 * (kB m c b).val + 1, by omega⟩
/-- and the embedding's. -/
def eR (b : ℕ) : Vec F S1x1024 .f32 := row (V m c main_arg1) (bF b) ⟨2 * (kB m c b).val + 1, by omega⟩
/-- Batch `b`'s prediction, -/
def hatB (b : ℕ) : Vec F S1x1x1024 .f32 := k0_pay13 (qR m c b) (k0_pay1 (eR m c b)) (wB m c (2 * b + 1)) (bB m c (2 * b + 1))
/-- its answer -/
def ansB (b : ℕ) : Vec F S1x1x1024 .f32 := k0_pay14 (aR m c b)
/-- and the loss block after `b` batches. -/
def lossB : ℕ → Vec F S1x128 .f32
  | 0 => k0_pay2
  | b + 1 => k0_pay15 (qR m c b) (aR m c b) (k0_pay1 (eR m c b)) (wB m c (2 * b + 1)) (bB m c (2 * b + 1)) (nB m c b) (lossB b) (aB m c b)

/-! ## The proof data -/

/-- Between points: the scratch words, at an odd point the first tile's; the two transfers' counters at zero; the other
    half of the share of the two arrays the body copies from. -/
def Φc (t : ℕ) : sProp 𝕄 :=
  iprop(∃ f11 f12 f13 f14 f15,
    ⌜t % 2 = 1 → f11 = (fun _ => aE m c (t / 2)) ∧ f12 = (fun _ => Scalar.addi 0#32 (cntT (xB m c (2 * (t / 2)))))
      ∧ f13 = (fun _ => bestN 0#32 (xB m c (2 * (t / 2))) g₀)⌝
    ∗ pt c (Memref.whole cc0_scratch0) fullShare f11 ∗ pt c (Memref.whole cc0_scratch1) fullShare f12 ∗ pt c (Memref.whole cc0_scratch2) fullShare f13
    ∗ pt c (Memref.whole cc0_scratch3) fullShare f14 ∗ pt c (Memref.whole cc0_scratch4) fullShare f15
    ∗ semVal ((c : Thread nD τ), SemLoc.dma 11) 0 ∗ semVal ((c : Thread nD τ), SemLoc.dma 12) 0
    ∗ pt c (Memref.whole main_arg0) fullShare.right (V m c main_arg0) ∗ pt c (Memref.whole main_arg1) fullShare.right (V m c main_arg1))

/-- The proof data on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => hatB m c (t.val / 2)
    | ⟨5, _⟩ => ansB m c (t.val / 2)
    | ⟨6, _⟩ => lossB m c ((t.val + 1) / 2)
  Φ t := Φc m c t.val
  q w := match w with
    | ⟨0, _⟩ => fullShare.left
    | ⟨1, _⟩ => fullShare.left
    | ⟨_ + 2, _⟩ => fullShare
  owed _ := 0

theorem A_eq (w : Fin cfg0.W) : (dats m 0 c).A w = V m c (Pipeline.arrRef spec0 w) := by dsimp only [dats]

theorem before_in0 (t : Fin cfg0.N) (d) : (dats m 0 c).before 0 t d = iblk m c 0 t :=
  ((dats m 0 c).before_in_eq_fetched 0 rfl (fun _ => rfl) (fun _ _ _ => rfl) (fun t => by dsimp only [dats]; rfl) t d).trans
    (by unfold Dat.fetched Dat.blockOf iblk; rw [A_eq]; try rfl)
theorem before_in1 (t : Fin cfg0.N) (d) : (dats m 0 c).before 1 t d = iblk m c 1 t :=
  ((dats m 0 c).before_in_eq_fetched 1 rfl (fun _ => rfl) (fun _ _ _ => rfl) (fun t => by dsimp only [dats]; rfl) t d).trans
    (by unfold Dat.fetched Dat.blockOf iblk; rw [A_eq]; try rfl)
theorem before_in2 (t : Fin cfg0.N) (d) : (dats m 0 c).before 2 t d = iblk m c 2 t :=
  ((dats m 0 c).before_in_eq_fetched 2 rfl (fun _ => rfl) (fun _ _ _ => rfl) (fun t => by dsimp only [dats]; rfl) t d).trans
    (by unfold Dat.fetched Dat.blockOf iblk; rw [A_eq]; try rfl)
theorem before_in3 (t : Fin cfg0.N) (d) : (dats m 0 c).before 3 t d = iblk m c 3 t :=
  ((dats m 0 c).before_in_eq_fetched 3 rfl (fun _ => rfl) (fun _ _ _ => rfl) (fun t => by dsimp only [dats]; rfl) t d).trans
    (by unfold Dat.fetched Dat.blockOf iblk; rw [A_eq]; try rfl)

/-! ## The grid's points -/

theorem co0 (t : Fin cfg0.N) : (grid0.coords t 0) = (bF (t.val / 2) : Fin 4) := Fin.ext <| by
  show (grid0.coords t 0).val = t.val / 2 % 4
  rcases fin_N0 t with rfl | rfl | rfl | rfl | rfl | rfl | rfl | rfl <;> decide
theorem co1 (t : Fin cfg0.N) : (grid0.coords t 1).val = t.val % 2 := by
  rcases fin_N0 t with rfl | rfl | rfl | rfl | rfl | rfl | rfl | rfl <;> decide
theorem cond1 (t : Fin cfg0.N) : k0_cond1 (grid0.coords t) = 1#1 ↔ t.val = 0 := by
  rcases fin_N0 t with rfl | rfl | rfl | rfl | rfl | rfl | rfl | rfl <;> decide
theorem cond4 (t : Fin cfg0.N) : k0_cond4 (grid0.coords t) = 1#1 ↔ t.val % 2 = 1 := by
  rcases fin_N0 t with rfl | rfl | rfl | rfl | rfl | rfl | rfl | rfl <;> decide
theorem cond2 (t : Fin cfg0.N) : Scalar.cmpi .ne (Scalar.extui (Scalar.cmpi .eq (BitVec.ofNat 32 (grid0.coords t 1).val) 0#32)) 0#32 = 1#1 ↔ t.val % 2 = 0 := by
  rw [co1]; have := Nat.mod_lt t.val (y := 2) (by decide)
  generalize t.val % 2 = r at *
  interval_cases r <;> decide
theorem flushF6 (t : Fin cfg0.N) (h : t.val % 8 ≠ 7) : (cfg0.win 6).flush t = false := by
  rw [← Bool.not_eq_true]; exact fun e => h ((flush0_6 t).mp e)
theorem idle45 (w : Fin cfg0.W) (hw : w = 4 ∨ w = 5) (t : Fin cfg0.N) : cfg0.idle w (cfg0.grid.coords t) = decide (t.val % 2 = 0) := by
  have e : cfg0.idle w (cfg0.grid.coords t) = !(k0_cond4 (grid0.coords t) == 1#1) := by rcases hw with rfl | rfl <;> rfl
  rw [e, Bool.eq_iff_iff]; simp [cond4]
theorem idle6 (t : Fin cfg0.N) : cfg0.idle 6 (cfg0.grid.coords t) = decide (t.val ≠ 0 ∧ t.val % 2 = 0) := by
  have e : cfg0.idle 6 (cfg0.grid.coords t) = (!(k0_cond1 (grid0.coords t) == 1#1) && !(k0_cond4 (grid0.coords t) == 1#1)) := rfl
  rw [e, Bool.eq_iff_iff]; simp [cond4, cond1]

/-- After the first point the loss block's buffer holds the loss so far. -/
theorem before6 : ∀ (n : ℕ) (t : Fin cfg0.N), t.val = n + 1 → ∀ d, (dats m 0 c).before 6 t d = lossB m c ((n + 1) / 2) := by
  intro n
  induction n using Nat.strong_induction_on with
  | _ n ih =>
    intro t ht d
    have hlt := t_lt t
    rw [(dats m 0 c).before_of_pos 6 t (by omega) ((cfg0.win 6).fetch_out rfl t) d, flushF6 _ (by show (t.val - 1) % 8 ≠ 7; omega), if_neg Bool.false_ne_true]
    have hi := idle6 ⟨t.val - 1, Nat.lt_of_le_of_lt (Nat.sub_le _ _) t.isLt⟩
    unfold Dat.left
    by_cases hc : t.val - 1 ≠ 0 ∧ (t.val - 1) % 2 = 0
    · rw [show decide _ = true from decide_eq_true hc] at hi
      rw [hi]
      obtain ⟨k, rfl⟩ : ∃ k, n = k + 1 := ⟨n - 1, by omega⟩
      show (dats m 0 c).before 6 _ d = _
      rw [ih k (by omega) ⟨t.val - 1, Nat.lt_of_le_of_lt (Nat.sub_le _ _) t.isLt⟩ (by show t.val - 1 = k + 1; omega) d]
      congr 1; omega
    · rw [show decide _ = false from decide_eq_false hc] at hi
      rw [hi]
      show (dats m 0 c).after 6 ⟨t.val - 1, Nat.lt_of_le_of_lt (Nat.sub_le _ _) t.isLt⟩ = _
      show lossB m c ((t.val - 1 + 1) / 2) = _
      congr 1; omega

/-! ## The body's obligation -/

/-- A whole memref's ownership is its buffer's. -/
theorem owns_rd {sp : Space} {S : Shape} {e : EltTy} (M : Memref sig .tc sp S e) (hM : M.IsWhole) (X : S.Idx → Elt F e) :
    (owns (c : Thread nD τ) M fullShare X : sProp 𝕄) = rd c M X := by
  unfold owns rd pt; rw [hM.set_eq_univ]

theorem to_rd {sp : Space} {S : Shape} {e : EltTy} (M : Memref sig .tc sp S e) (hM : M.IsWhole) {X Y : S.Idx → Elt F e} (h : X = Y) :
    (owns (c : Thread nD τ) M fullShare X : sProp 𝕄) ⊢ rd c M Y := by rw [owns_rd c M hM, h]
theorem of_rd {sp : Space} {S : Shape} {e : EltTy} (M : Memref sig .tc sp S e) (hM : M.IsWhole) (X : S.Idx → Elt F e) :
    rd c M X ⊢ (owns (c : Thread nD τ) M fullShare X : sProp 𝕄) := by rw [owns_rd c M hM]

theorem leavesExact_live (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- An odd point: the batch's results are written. -/
theorem body_odd (t : Fin cfg0.N) (b : ℕ) (hb : t.val = 2 * b + 1) (Q : PUnit → sProp 𝕄) :
    iprop(Φc m c t.val ∗ (∃ W, owes (c : Thread nD τ) (0 : CellTallies nD τ sig Unit) W)
      ∗ rd c (st0_0 t) (iblk m c 0 t) ∗ rd c (st0_1 t) (iblk m c 1 t) ∗ rd c (st0_2 t) (iblk m c 2 t) ∗ rd c (st0_3 t) (iblk m c 3 t)
      ∗ (∃ X, rd c (st0_4 t) X) ∗ (∃ X, rd c (st0_5 t) X) ∗ rd c (st0_6 t) (lossB m c b)
      ∗ (iprop(Φc m c (t.val + 1) ∗ (∃ W, owes (c : Thread nD τ) (0 : CellTallies nD τ sig Unit) W)
        ∗ rd c (st0_0 t) (iblk m c 0 t) ∗ rd c (st0_1 t) (iblk m c 1 t) ∗ rd c (st0_2 t) (iblk m c 2 t) ∗ rd c (st0_3 t) (iblk m c 3 t)
        ∗ rd c (st0_4 t) (hatB m c b) ∗ rd c (st0_5 t) (ansB m c b) ∗ rd c (st0_6 t) (lossB m c (b + 1))) -∗ Q ⟨⟩))
    ⊢ wp frame (wpE (defs₀ (F := F)) Variants.none c none) Set.univ (bodyAt0 t) Q := by
  have hlt := t_lt t
  have ht1 : t.val % 2 = 1 := by omega
  have hd : t.val / 2 = b := by omega
  unfold Φc
  iintro ⟨⟨%f11, %f12, %f13, %f14, %f15, %hf, H11, H12, H13, H14, H15, HS0, HS1, H6, H7⟩, ⟨%W, HO⟩, ⟨%f2, %e2, H2⟩, ⟨%f3, %e3, H3⟩, ⟨%f4, %e4, H4⟩, ⟨%f5, %e5, H5⟩, ⟨%X8, %f8, -, H8⟩, ⟨%X9, %f9, -, H9⟩, ⟨%f10, %e10, H10⟩, HQ⟩
  obtain ⟨rfl, rfl, rfl⟩ := hf ht1
  rw [hd]
  have hk : bestN (BitVec.ofNat 32 (grid0.coords t 1).val) (iblk m c 0 t) (bestN 0#32 (xB m c (2 * b)) g₀) = BitVec.ofNat 32 (2 * (kB m c b).val) := by
    rw [co1, ht1, ← kB_spec, xB_of m c hb]
  iapply (runOdd c (grid0.coords t) (st0_0 t) (hstage0_0 _) (st0_1 t) (hstage0_1 _) (st0_2 t) (hstage0_2 _) (st0_3 t) (hstage0_3 _)
    (st0_4 t) (hstage0_4 _) (st0_5 t) (hstage0_5 _) (st0_6 t) (hstage0_6 _)
    (by rw [cond1]; omega) (by rw [cond4]; exact ht1) (by rw [cond2]; omega) fullShare.right fullShare.right
    (iblk m c 0 t) (iblk m c 1 t) (iblk m c 2 t) (iblk m c 3 t) (lossB m c b) f2 f3 f4 f5 (V m c main_arg0) (V m c main_arg1) f8 f9 f10 e2 e3 e4 e5 e10
    (aE m c b) (Scalar.addi 0#32 (cntT (xB m c (2 * b)))) (bestN 0#32 (xB m c (2 * b)) g₀) f14 f15 (kB m c b) hk W Q)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HO]; · iexact HO
  rw [co0, hd]
  iintro ⟨H2, H3, H4, H5, H6, H7, H8, H9, H10, ⟨%g11, H11⟩, ⟨%g12, H12⟩, ⟨%g13, H13⟩, ⟨%g14, H14⟩, ⟨%g15, H15⟩, HS0, HS1, HO⟩
  iapply HQ
  isplitl [H11 H12 H13 H14 H15 HS0 HS1 H6 H7]
  · iexists g11, g12, g13, g14, g15
    isplitr; · ipureintro; intro h; omega
    isplitl [H11]; · iexact H11
    isplitl [H12]; · iexact H12
    isplitl [H13]; · iexact H13
    isplitl [H14]; · iexact H14
    isplitl [H15]; · iexact H15
    isplitl [HS0]; · iexact HS0
    isplitl [HS1]; · iexact HS1
    isplitl [H6]; · iexact H6
    iexact H7
  isplitl [HO]; · iexact HO
  isplitl [H2]; · iexact H2
  isplitl [H3]; · iexact H3
  isplitl [H4]; · iexact H4
  isplitl [H5]; · iexact H5
  rw [lossB]; unfold hatB ansB aB nB
  rw [xB_of m c hb, eB_of m c hb, wB_of m c hb, bB_of m c hb]
  isplitl [H8]; · iexact H8
  isplitl [H9]; · iexact H9
  iexact H10

/-- An even point after the first: the running words only. -/
theorem body_even (t : Fin cfg0.N) (b : ℕ) (hb : t.val = 2 * b) (h0 : t.val ≠ 0) (X : Vec F S1x128 .f32) (Q : PUnit → sProp 𝕄) :
    iprop(Φc m c t.val ∗ (∃ W, owes (c : Thread nD τ) (0 : CellTallies nD τ sig Unit) W)
      ∗ rd c (st0_0 t) (iblk m c 0 t) ∗ rd c (st0_1 t) (iblk m c 1 t) ∗ rd c (st0_2 t) (iblk m c 2 t) ∗ rd c (st0_3 t) (iblk m c 3 t)
      ∗ rd c (st0_6 t) X
      ∗ (iprop(Φc m c (t.val + 1) ∗ (∃ W, owes (c : Thread nD τ) (0 : CellTallies nD τ sig Unit) W)
        ∗ rd c (st0_0 t) (iblk m c 0 t) ∗ rd c (st0_1 t) (iblk m c 1 t) ∗ rd c (st0_2 t) (iblk m c 2 t) ∗ rd c (st0_3 t) (iblk m c 3 t)
        ∗ rd c (st0_6 t) X) -∗ Q ⟨⟩))
    ⊢ wp frame (wpE (defs₀ (F := F)) Variants.none c none) Set.univ (bodyAt0 t) Q := by
  have hlt := t_lt t
  have ht0 : t.val % 2 = 0 := by omega
  have hd : (t.val + 1) / 2 = b := by omega
  unfold Φc
  iintro ⟨⟨%f11, %f12, %f13, %f14, %f15, -, H11, H12, H13, H14, H15, HS0, HS1, H6, H7⟩, ⟨%W, HO⟩, ⟨%f2, %e2, H2⟩, ⟨%f3, %e3, H3⟩, ⟨%f4, %e4, H4⟩, ⟨%f5, %e5, H5⟩, ⟨%f10, %e10, H10⟩, HQ⟩
  iapply (runEven c (grid0.coords t) (st0_0 t) (hstage0_0 _) (st0_1 t) (hstage0_1 _) (st0_2 t) (hstage0_2 _) (st0_3 t) (hstage0_3 _)
    (st0_4 t) (hstage0_4 _) (st0_5 t) (hstage0_5 _) (st0_6 t) (hstage0_6 _)
    (by rw [cond1]; omega) (by rw [cond4]; omega) (by rw [cond2]; omega)
    (iblk m c 0 t) (iblk m c 1 t) (iblk m c 2 t) (iblk m c 3 t) f2 f3 f4 f5 f10 e2 e3 e4 e5 f11 f12 f13 W Q)
  isplitl [H2]; · iexact H2
  isplitl [H3]; · iexact H3
  isplitl [H4]; · iexact H4
  isplitl [H5]; · iexact H5
  isplitl [H10]; · iexact H10
  isplitl [H11]; · iexact H11
  isplitl [H12]; · iexact H12
  isplitl [H13]; · iexact H13
  isplitl [HO]; · iexact HO
  rw [co1, ht0]
  iintro ⟨H2, H3, H4, H5, H10, ⟨%g11, %h11, H11⟩, ⟨%g12, %h12, H12⟩, ⟨%g13, %h13, H13⟩, HO⟩
  iapply HQ
  isplitl [H11 H12 H13 H14 H15 HS0 HS1 H6 H7]
  · iexists g11, g12, g13, f14, f15
    isplitr
    · ipureintro; intro _; rw [hd]; unfold aE; rw [xB_of m c hb, eB_of m c hb, wB_of m c hb, bB_of m c hb]
      exact ⟨h11, h12, h13⟩
    isplitl [H11]; · iexact H11
    isplitl [H12]; · iexact H12
    isplitl [H13]; · iexact H13
    isplitl [H14]; · iexact H14
    isplitl [H15]; · iexact H15
    isplitl [HS0]; · iexact HS0
    isplitl [HS1]; · iexact HS1
    isplitl [H6]; · iexact H6
    iexact H7
  isplitl [HO]; · iexact HO
  isplitl [H2]; · iexact H2
  isplitl [H3]; · iexact H3
  isplitl [H4]; · iexact H4
  isplitl [H5]; · iexact H5
  iexists f10; isplitr; · ipureintro; exact e10
  iexact H10

/-- The first point: the loss block as well. -/
theorem body_first (t : Fin cfg0.N) (b : ℕ) (hb : t.val = 2 * b) (h0 : t.val = 0) (Q : PUnit → sProp 𝕄) :
    iprop(Φc m c t.val ∗ (∃ W, owes (c : Thread nD τ) (0 : CellTallies nD τ sig Unit) W)
      ∗ rd c (st0_0 t) (iblk m c 0 t) ∗ rd c (st0_1 t) (iblk m c 1 t) ∗ rd c (st0_2 t) (iblk m c 2 t) ∗ rd c (st0_3 t) (iblk m c 3 t)
      ∗ (∃ X, rd c (st0_6 t) X)
      ∗ (iprop(Φc m c (t.val + 1) ∗ (∃ W, owes (c : Thread nD τ) (0 : CellTallies nD τ sig Unit) W)
        ∗ rd c (st0_0 t) (iblk m c 0 t) ∗ rd c (st0_1 t) (iblk m c 1 t) ∗ rd c (st0_2 t) (iblk m c 2 t) ∗ rd c (st0_3 t) (iblk m c 3 t)
        ∗ rd c (st0_6 t) k0_pay2) -∗ Q ⟨⟩))
    ⊢ wp frame (wpE (defs₀ (F := F)) Variants.none c none) Set.univ (bodyAt0 t) Q := by
  have hlt := t_lt t
  have ht0 : t.val % 2 = 0 := by omega
  have hd : (t.val + 1) / 2 = b := by omega
  unfold Φc
  iintro ⟨⟨%f11, %f12, %f13, %f14, %f15, -, H11, H12, H13, H14, H15, HS0, HS1, H6, H7⟩, ⟨%W, HO⟩, ⟨%f2, %e2, H2⟩, ⟨%f3, %e3, H3⟩, ⟨%f4, %e4, H4⟩, ⟨%f5, %e5, H5⟩, ⟨%X10, %f10, -, H10⟩, HQ⟩
  iapply (runFirst c (grid0.coords t) (st0_0 t) (hstage0_0 _) (st0_1 t) (hstage0_1 _) (st0_2 t) (hstage0_2 _) (st0_3 t) (hstage0_3 _)
    (st0_4 t) (hstage0_4 _) (st0_5 t) (hstage0_5 _) (st0_6 t) (hstage0_6 _)
    (by rw [cond1]; omega) (by rw [cond4]; omega) (by rw [cond2]; omega)
    (iblk m c 0 t) (iblk m c 1 t) (iblk m c 2 t) (iblk m c 3 t) f2 f3 f4 f5 f10 e2 e3 e4 e5 f11 f12 f13 W Q)
  isplitl [H2]; · iexact H2
  isplitl [H3]; · iexact H3
  isplitl [H4]; · iexact H4
  isplitl [H5]; · iexact H5
  isplitl [H10]; · iexact H10
  isplitl [H11]; · iexact H11
  isplitl [H12]; · iexact H12
  isplitl [H13]; · iexact H13
  isplitl [HO]; · iexact HO
  rw [co1, ht0]
  iintro ⟨H2, H3, H4, H5, H10, ⟨%g11, %h11, H11⟩, ⟨%g12, %h12, H12⟩, ⟨%g13, %h13, H13⟩, HO⟩
  iapply HQ
  isplitl [H11 H12 H13 H14 H15 HS0 HS1 H6 H7]
  · iexists g11, g12, g13, f14, f15
    isplitr
    · ipureintro; intro _; rw [hd]; unfold aE; rw [xB_of m c hb, eB_of m c hb, wB_of m c hb, bB_of m c hb]
      exact ⟨h11, h12, h13⟩
    isplitl [H11]; · iexact H11
    isplitl [H12]; · iexact H12
    isplitl [H13]; · iexact H13
    isplitl [H14]; · iexact H14
    isplitl [H15]; · iexact H15
    isplitl [HS0]; · iexact HS0
    isplitl [HS1]; · iexact HS1
    isplitl [H6]; · iexact H6
    iexact H7
  isplitl [HO]; · iexact HO
  isplitl [H2]; · iexact H2
  isplitl [H3]; · iexact H3
  isplitl [H4]; · iexact H4
  isplitl [H5]; · iexact H5
  iexact H10

/-- The body meets its obligation at every point. -/
theorem body_obligation : BodyObligation (dats m 0 c) (defs₀ (F := F)) Variants.none () Set.univ := fun t => by
  have hlt := t_lt t
  show _ ⊢ wp frame (wpE (defs₀ (F := F)) Variants.none c none) Set.univ (bodyAt0 t) fun _ =>
    iprop((dats m 0 c).Φ t.succ ∗ (dats m 0 c).owesAt () t.succ ∗ bigSep Finset.univ fun w => (dats m 0 c).leavesExact w t)
  rw [bigSep_W0, bigSep_W0,
    leavesExact_live m c 0 t rfl, leavesExact_live m c 1 t rfl, leavesExact_live m c 2 t rfl, leavesExact_live m c 3 t rfl]
  rw [show (dats m 0 c).Φ t.castSucc = Φc m c t.val from rfl, show (dats m 0 c).Φ t.succ = Φc m c (t.val + 1) from rfl]
  unfold Dat.owesAt Pipeline.owesWithin
  rw [show (dats m 0 c).owed t.castSucc = 0 from rfl, show (dats m 0 c).owed t.succ = 0 from rfl]
  rw [show (dats m 0 c).after 0 t = iblk m c 0 t from rfl, show (dats m 0 c).after 1 t = iblk m c 1 t from rfl,
    show (dats m 0 c).after 2 t = iblk m c 2 t from rfl, show (dats m 0 c).after 3 t = iblk m c 3 t from rfl]
  rcases Nat.even_or_odd' t.val with ⟨b, hb | hb⟩
  · rw [(dats m 0 c).leavesExact_idle 4 t ((idle45 4 (.inl rfl) t).trans (decide_eq_true (by omega))) (by rw [← Bool.not_eq_true, flush0_4]; omega),
      (dats m 0 c).leavesExact_idle 5 t ((idle45 5 (.inr rfl) t).trans (decide_eq_true (by omega))) (by rw [← Bool.not_eq_true, flush0_5]; omega)]
    by_cases h0 : t.val = 0
    · rw [leavesExact_live m c 6 t ((idle6 t).trans (decide_eq_false (by omega)))]
      rw [show (dats m 0 c).after 6 t = lossB m c ((t.val + 1) / 2) from rfl, show (t.val + 1) / 2 = 0 by omega, lossB]
      iintro ⟨HP, ⟨%W, -, HO⟩, ⟨%d0, H0⟩, ⟨%d1, H1⟩, ⟨%d2, H2⟩, ⟨%d3, H3⟩, H4, H5, ⟨%d6, H6⟩⟩
      iapply (body_first m c t b hb h0)
      isplitl [HP]; · iexact HP
      isplitl [HO]; · iexists W; iexact HO
      isplitl [H0]; · iapply (to_rd c (st0_0 t) (hstage0_0 _) (before_in0 m c t d0)); iexact H0
      isplitl [H1]; · iapply (to_rd c (st0_1 t) (hstage0_1 _) (before_in1 m c t d1)); iexact H1
      isplitl [H2]; · iapply (to_rd c (st0_2 t) (hstage0_2 _) (before_in2 m c t d2)); iexact H2
      isplitl [H3]; · iapply (to_rd c (st0_3 t) (hstage0_3 _) (before_in3 m c t d3)); iexact H3
      isplitl [H6]; · iexists _; iapply (to_rd c (st0_6 t) (hstage0_6 _) (rfl)); iexact H6
      iintro ⟨HP, ⟨%W', HO⟩, H0, H1, H2, H3, H6⟩
      isplitl [HP]; · iexact HP
      isplitl [HO]
      · iexists W'; isplitr; · ipureintro; exact fun _ _ => Or.inl trivial
        iexact HO
      isplitl [H0]; · iapply (of_rd c (st0_0 t) (hstage0_0 _)); iexact H0
      isplitl [H1]; · iapply (of_rd c (st0_1 t) (hstage0_1 _)); iexact H1
      isplitl [H2]; · iapply (of_rd c (st0_2 t) (hstage0_2 _)); iexact H2
      isplitl [H3]; · iapply (of_rd c (st0_3 t) (hstage0_3 _)); iexact H3
      isplitl [H4]; · iexact H4
      isplitl [H5]; · iexact H5
      iapply (of_rd c (st0_6 t) (hstage0_6 _)); iexact H6
    · rw [(dats m 0 c).leavesExact_idle 6 t ((idle6 t).trans (decide_eq_true ⟨h0, by omega⟩)) (flushF6 t (by omega))]
      iintro ⟨HP, ⟨%W, -, HO⟩, ⟨%d0, H0⟩, ⟨%d1, H1⟩, ⟨%d2, H2⟩, ⟨%d3, H3⟩, H4, H5, ⟨%d6, H6⟩⟩
      iapply (body_even m c t b hb h0 ((dats m 0 c).before 6 t d6))
      isplitl [HP]; · iexact HP
      isplitl [HO]; · iexists W; iexact HO
      isplitl [H0]; · iapply (to_rd c (st0_0 t) (hstage0_0 _) (before_in0 m c t d0)); iexact H0
      isplitl [H1]; · iapply (to_rd c (st0_1 t) (hstage0_1 _) (before_in1 m c t d1)); iexact H1
      isplitl [H2]; · iapply (to_rd c (st0_2 t) (hstage0_2 _) (before_in2 m c t d2)); iexact H2
      isplitl [H3]; · iapply (to_rd c (st0_3 t) (hstage0_3 _) (before_in3 m c t d3)); iexact H3
      isplitl [H6]; · iapply (to_rd c (st0_6 t) (hstage0_6 _) rfl); iexact H6
      iintro ⟨HP, ⟨%W', HO⟩, H0, H1, H2, H3, H6⟩
      isplitl [HP]; · iexact HP
      isplitl [HO]
      · iexists W'; isplitr; · ipureintro; exact fun _ _ => Or.inl trivial
        iexact HO
      isplitl [H0]; · iapply (of_rd c (st0_0 t) (hstage0_0 _)); iexact H0
      isplitl [H1]; · iapply (of_rd c (st0_1 t) (hstage0_1 _)); iexact H1
      isplitl [H2]; · iapply (of_rd c (st0_2 t) (hstage0_2 _)); iexact H2
      isplitl [H3]; · iapply (of_rd c (st0_3 t) (hstage0_3 _)); iexact H3
      isplitl [H4]; · iexact H4
      isplitl [H5]; · iexact H5
      iexists d6; iapply (of_rd c (st0_6 t) (hstage0_6 _)); iexact H6
  · rw [leavesExact_live m c 4 t ((idle45 4 (.inl rfl) t).trans (decide_eq_false (by omega))),
      leavesExact_live m c 5 t ((idle45 5 (.inr rfl) t).trans (decide_eq_false (by omega))),
      leavesExact_live m c 6 t ((idle6 t).trans (decide_eq_false (by omega)))]
    rw [show (dats m 0 c).after 6 t = lossB m c ((t.val + 1) / 2) from rfl, show (t.val + 1) / 2 = b + 1 by omega,
      show (dats m 0 c).after 4 t = hatB m c (t.val / 2) from rfl, show (dats m 0 c).after 5 t = ansB m c (t.val / 2) from rfl, show t.val / 2 = b by omega]
    iintro ⟨HP, ⟨%W, -, HO⟩, ⟨%d0, H0⟩, ⟨%d1, H1⟩, ⟨%d2, H2⟩, ⟨%d3, H3⟩, ⟨%d4, H4⟩, ⟨%d5, H5⟩, ⟨%d6, H6⟩⟩
    iapply (body_odd m c t b hb)
    isplitl [HP]; · iexact HP
    isplitl [HO]; · iexists W; iexact HO
    isplitl [H0]; · iapply (to_rd c (st0_0 t) (hstage0_0 _) (before_in0 m c t d0)); iexact H0
    isplitl [H1]; · iapply (to_rd c (st0_1 t) (hstage0_1 _) (before_in1 m c t d1)); iexact H1
    isplitl [H2]; · iapply (to_rd c (st0_2 t) (hstage0_2 _) (before_in2 m c t d2)); iexact H2
    isplitl [H3]; · iapply (to_rd c (st0_3 t) (hstage0_3 _) (before_in3 m c t d3)); iexact H3
    isplitl [H4]; · iexists _; iapply (to_rd c (st0_4 t) (hstage0_4 _) (rfl)); iexact H4
    isplitl [H5]; · iexists _; iapply (to_rd c (st0_5 t) (hstage0_5 _) (rfl)); iexact H5
    isplitl [H6]; · iapply (to_rd c (st0_6 t) (hstage0_6 _) ((before6 m c (2 * b) t hb d6).trans (congrArg (lossB m c) (by omega)))); iexact H6
    iintro ⟨HP, ⟨%W', HO⟩, H0, H1, H2, H3, H4, H5, H6⟩
    isplitl [HP]; · iexact HP
    isplitl [HO]
    · iexists W'; isplitr; · ipureintro; exact fun _ _ => Or.inl trivial
      iexact HO
    isplitl [H0]; · iapply (of_rd c (st0_0 t) (hstage0_0 _)); iexact H0
    isplitl [H1]; · iapply (of_rd c (st0_1 t) (hstage0_1 _)); iexact H1
    isplitl [H2]; · iapply (of_rd c (st0_2 t) (hstage0_2 _)); iexact H2
    isplitl [H3]; · iapply (of_rd c (st0_3 t) (hstage0_3 _)); iexact H3
    isplitl [H4]; · iapply (of_rd c (st0_4 t) (hstage0_4 _)); iexact H4
    isplitl [H5]; · iapply (of_rd c (st0_5 t) (hstage0_5 _)); iexact H5
    iapply (of_rd c (st0_6 t) (hstage0_6 _)); iexact H6

end Cert.KernelIdeal.Hand

end
-- ==== Proof.RunI.lean ====
/-
  The launch: @main as host operations, the kernel's region, host operations, and what every final state holds.
-/
module

public import proofs.«01_k».proof.Proof.DataI
public import Idealize.ShloMosaic.Lib.Pipeline.RegionsLoop

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The pipeline library's algebra, the left component. -/
abbrev EP : Emb (UR sig nD τ) (MT nD τ sig Unit (Elt F) ℕ (Pipeline.UD sig nD τ) ℕ) := embL

variable (m : (ℓ : Loc nD τ sig) → Buf (Elt F) ℓ) (ρ : Dev nD → PrngReg)

/-- The body's own two counters. -/
def osem : Fin 2 → SemLoc sig := fun | 0 => .dma 11 | 1 => .dma 12
theorem ownSemFacts : Pipeline.OwnSemFacts spec0 osem := by decide

/-- They, at zero. -/
abbrev sems0 (c : Dev nD) : sProp 𝕄 := iprop(semVal ((c : Thread nD τ), SemLoc.dma 11) 0 ∗ semVal ((c : Thread nD τ), SemLoc.dma 12) 0)
theorem ownSems0_eq (c : Dev nD) :
    (Pipeline.ownSems0 (Ix := Unit) (Name := ℕ) (U := Pipeline.UD sig nD τ) (Lvl := ℕ) (Val := Elt F) (τ := τ) osem c : sProp 𝕄) = sems0 c :=
  Pipeline.ownSems0_eq_of_list c osem [0, 1] (by decide) (by decide)

/-- The launch element. -/
def u₀ : Pipeline.UD sig nD τ := (initOf (Pipeline.cells cfgs cellOf_inj) (Pipeline.launchToks cfgs cellOf_inj), 1)

/-- Window `w`'s array after the run. -/
def finalA (c : Dev nD) (w : Fin cfg0.W) : Buf (Elt F) ((cfg0.win w).arr.view.loc (c : Thread nD τ)) := (dats m 0 c).arrAt w cfg0.N
/-- The buffers when the region is left -/
def V1 (c : Dev nD) : Valuation τ sig (Elt F) := Pipeline.withArrays spec0 c (V0 m c) (finalA m c)
/-- and at the end. -/
def Vend (c : Dev nD) : Valuation τ sig (Elt F) := StableHlo.after hostOps1 (V1 m c)

abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- What rides beside the buffers through the host operations. -/
abbrev R (c : Dev nD) : sProp 𝕄 := iprop(∃ W, owes (c : Thread nD τ) (0 : CellTallies nD τ sig Unit) W)
/-- The halves of the two copied arrays the body keeps. -/
abbrev halves (c : Dev nD) : sProp 𝕄 :=
  iprop(pt c (Memref.whole main_arg0) fullShare.right (V m c main_arg0) ∗ pt c (Memref.whole main_arg1) fullShare.right (V m c main_arg1))

/-- The windows' arrays at their shares with the two halves are the arrays whole. -/
theorem arrays_halves (c : Dev nD) (A : (w : Fin cfg0.W) → Buf (Elt F) ((cfg0.win w).arr.view.loc (c : Thread nD τ)))
    (h0 : A 0 = V m c main_arg0) (h1 : A 1 = V m c main_arg1) :
    (bigSep Finset.univ fun w => (((c : Thread nD τ).loc (Pipeline.arrRef spec0 w)) ↦{fullShare} A w : sProp 𝕄)) ⊣⊢ iprop((dats m 0 c).arrays A ∗ halves m c) := by
  rw [(dats m 0 c).arrays_arrShares arr_whole0]
  unfold Pipeline.arrShares
  rw [bigSep_W0, bigSep_W0]
  rw [show (dats m 0 c).share 0 = fullShare.left from rfl, show (dats m 0 c).share 1 = fullShare.left from rfl, show (dats m 0 c).share 2 = fullShare from rfl,
    show (dats m 0 c).share 3 = fullShare from rfl, show (dats m 0 c).share 4 = fullShare from rfl, show (dats m 0 c).share 5 = fullShare from rfl,
    show (dats m 0 c).share 6 = fullShare from rfl]
  simp only [halves, ← h0, ← h1]
  constructor
  · iintro ⟨H0, H1, H2, H3, H4, H5, H6⟩
    ihave H0 := (pointsTo_share (PosShare.mem_left_op_right fullShare)).1 $$ H0
    ihave H1 := (pointsTo_share (PosShare.mem_left_op_right fullShare)).1 $$ H1
    icases H0 with ⟨H0, H0'⟩
    icases H1 with ⟨H1, H1'⟩
    isplitr [H0' H1']
    · isplitl [H0]; · iexact H0
      isplitl [H1]; · iexact H1
      isplitl [H2]; · iexact H2
      isplitl [H3]; · iexact H3
      isplitl [H4]; · iexact H4
      isplitl [H5]; · iexact H5
      iexact H6
    isplitl [H0']; · iexact H0'
    iexact H1'
  · iintro ⟨⟨H0, H1, H2, H3, H4, H5, H6⟩, H0', H1'⟩
    isplitl [H0 H0']
    · iapply (pointsTo_share (PosShare.mem_left_op_right fullShare)).2
      isplitl [H0]; · iexact H0
      iexact H0'
    isplitl [H1 H1']
    · iapply (pointsTo_share (PosShare.mem_left_op_right fullShare)).2
      isplitl [H1]; · iexact H1
      iexact H1'
    isplitl [H2]; · iexact H2
    isplitl [H3]; · iexact H3
    isplitl [H4]; · iexact H4
    isplitl [H5]; · iexact H5
    iexact H6

theorem finalA0 (c : Dev nD) : finalA m c 0 = V m c main_arg0 := ((dats m 0 c).arrAt_in 0 rfl _).trans (A_eq m c 0)
theorem finalA1 (c : Dev nD) : finalA m c 1 = V m c main_arg1 := ((dats m 0 c).arrAt_in 1 rfl _).trans (A_eq m c 1)

/-- The host operations before the region. -/
def seg0 : Pipeline.HostSeg (Name := ℕ) (U := Pipeline.UD sig nD τ) (pcfgs (F := F)) defs₀ Variants.none L lv :=
  Pipeline.HostSeg.ofOps _ _ _ _ _ (Pipeline.ucRefs τ sig) hostOps0 (fun op h => Pipeline.sub_ucRefs op ((List.forall_iff_forall_mem.mp hostOps0_sub) op h))
    (fun op h => (List.forall_iff_forall_mem.mp hostOps0_fresh) op h) (fun c b => m (c, b)) R
/-- The host operations after it. -/
def seg1 : Pipeline.HostSeg (Name := ℕ) (U := Pipeline.UD sig nD τ) (pcfgs (F := F)) defs₀ Variants.none L lv :=
  Pipeline.HostSeg.ofOps _ _ _ _ _ (Pipeline.ucRefs τ sig) hostOps1 (fun op h => Pipeline.sub_ucRefs op ((List.forall_iff_forall_mem.mp hostOps1_sub) op h))
    (fun op h => (List.forall_iff_forall_mem.mp hostOps1_fresh) op h) (V1 m) R

set_option backward.isDefEq.respectTransparency.types false in
/-- The region. -/
def reg0 : Pipeline.RegionSeg (pcfgs (F := F)) adm (dats m) () defs₀ Variants.none L lv 0 where
  win := launch0.win.to₀
  block_pos := launch0.block_pos
  stage_whole := launch0.stage_whole
  K := Fin 2
  osem := osem
  ho := ownSemFacts
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m c) ∗ R c)
  X c := iprop(halves m c ∗ sems0 c)
  Y c := halves m c
  Z c := Pipeline.unscopedRest spec0 c (V m c)
  hentry c := by
    rw [show StableHlo.held (c : Thread nD τ) (Pipeline.ucRefs τ sig) (V0 m c) = unscopedBufs c (V m c) from (Pipeline.unscopedBufs_held c _).symm, ownSems0_eq,
      Pipeline.unscopedBufs_split (Pipeline.pin (pcfgs (F := F)) adm) 0 launch0.win.arr_unscoped launch0.win.arr_inj c (V m c)]
    have hsplit := (arrays_halves m c (fun w => V m c (Pipeline.arrRef spec0 w)) rfl rfl).1
    iintro ⟨⟨⟨Ha, HZ⟩, HO⟩, Hos, -⟩
    ihave H := hsplit $$ Ha
    icases H with ⟨Ha, Hh⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hh Hos]
    · isplitl [Hh]; · iexact Hh
      iexact Hos
    iexact HZ
  hin c := by
    rw [show (dats m 0 c).Φ 0 = Φc m c 0 from rfl, scopedRest0_eq]; unfold Φc
    iintro ⟨⟨⟨H6, H7⟩, HS0, HS1⟩, -, ⟨%f14, H14⟩, ⟨%f15, H15⟩, ⟨%f11, H11⟩, ⟨%f12, H12⟩, ⟨%f13, H13⟩⟩
    iexists f11, f12, f13, f14, f15
    isplitr; · ipureintro; intro h; omega
    isplitl [H11]; · iexact H11
    isplitl [H12]; · iexact H12
    isplitl [H13]; · iexact H13
    isplitl [H14]; · iexact H14
    isplitl [H15]; · iexact H15
    isplitl [HS0]; · iexact HS0
    isplitl [HS1]; · iexact HS1
    isplitl [H6]; · iexact H6
    iexact H7
  hout c := by
    rw [ownSems0_eq, show (dats m 0 c).Φ (Fin.last cfg0.N) = Φc m c cfg0.N from rfl, scopedRest0_eq]; unfold Φc
    iintro ⟨%f11, %f12, %f13, %f14, %f15, -, H11, H12, H13, H14, H15, HS0, HS1, H6, H7⟩
    isplitl [H6 H7]
    · isplitl [H6]; · iexact H6
      iexact H7
    isplitl [HS0 HS1]
    · isplitl [HS0]; · iexact HS0
      iexact HS1
    isplitl [H14]; · iexists f14; iexact H14
    isplitl [H15]; · iexists f15; iexact H15
    isplitl [H11]; · iexists f11; iexact H11
    isplitl [H12]; · iexists f12; iexact H12
    iexists f13; iexact H13
  hexit c := by
    have hjoin := (arrays_halves m c (finalA m c) (finalA0 m c) (finalA1 m c)).2
    rw [show StableHlo.held (c : Thread nD τ) (Pipeline.ucRefs τ sig) (V1 m c) = unscopedBufs c (fun b => V1 m c (Proc.devRef .tc b)) from (Pipeline.unscopedBufs_held c _).symm,
      Pipeline.unscopedBufs_split (Pipeline.pin (pcfgs (F := F)) adm) 0 launch0.win.arr_unscoped launch0.win.arr_inj c (fun b => V1 m c (Proc.devRef .tc b))]
    have hr : (Pipeline.unscopedRest (Ix := Unit) (Name := ℕ) (U := Pipeline.UD sig nD τ) (Lvl := ℕ) spec0 c (V m c) : sProp 𝕄)
        = Pipeline.unscopedRest spec0 c (fun b => V1 m c (Proc.devRef .tc b)) := by
      unfold Pipeline.unscopedRest
      refine bigSep_congr fun b hb => ?_
      dsimp only
      rw [show V1 m c (Proc.devRef .tc b) = V0 m c (Proc.devRef .tc b) from Pipeline.withArrays_of_ne spec0 c _ _ b fun w e =>
        (Finset.mem_sdiff.mp hb).2 (Finset.mem_image.mpr ⟨w, Finset.mem_univ _, e⟩)]
    have ha : (bigSep Finset.univ fun w => (((c : Thread nD τ).loc (Pipeline.arrRef spec0 w)) ↦{fullShare} finalA m c w : sProp 𝕄))
        = bigSep Finset.univ fun w => (((c : Thread nD τ).loc (Pipeline.arrRef spec0 w)) ↦{fullShare} V1 m c (Proc.devRef .tc (Pipeline.arrRef spec0 w)) : sProp 𝕄) :=
      bigSep_congr fun w _ => by rw [show V1 m c (Proc.devRef .tc (Pipeline.arrRef spec0 w)) = finalA m c w from Pipeline.withArrays_arr spec0 launch0.win.arr_inj c _ _ w]
    rw [ha] at hjoin
    rw [hr]
    iintro ⟨Ha, HO, HY, HZ⟩
    imodintro
    isplitr [HO]
    · isplitl [Ha HY]
      · iapply hjoin
        isplitl [Ha]; · iexact Ha
        iexact HY
      iexact HZ
    · unfold Pipeline.Dat.owesAt Pipeline.owesWithin
      icases HO with ⟨%W, -, HO⟩; iexists W; iexact HO

abbrev segs : List (Pipeline.Seg (pcfgs (F := F)) adm (dats m) () defs₀ Variants.none L lv) := [.host (seg0 m), .region (reg0 m), .host (seg1 m)]

/-- What every final state holds: each unscoped buffer at its end contents. -/
def QC : PUnit × MemSt nD τ sig (Elt F) → Prop := fun r =>
  ∀ (c : Dev nD) (b : Ref sig .tc), b.isScoped = false → r.2.mem ((c : Thread nD τ).loc b) = Vend m c (Proc.devRef .tc b)

set_option backward.isDefEq.respectTransparency.types false in
/-- Every weakly fair execution of @main ends, with each unscoped buffer at its end contents and every counter at zero. -/
theorem run_main : θ_run defs (onTc (τ := τ) (main (F := F))) (s₀ m ρ) (fun r => QC m r ∧ r.2.sem = fun _ => 0) :=
  Pipeline.θ_run_regions_kit_sems (pcfgs (F := F)) adm (dats m) () cellOf_inj EP defs₀ Variants.none L lv m ρ main (segs m)
    (fun c Q => by rw [main_segs adm (dats m) () Variants.none L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R c))
    (Tₙ := fun c => iprop(StableHlo.held (c : Thread nD τ) (Pipeline.ucRefs τ sig) (Vend m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (fun b => m (c, b)) from Pipeline.unscopedBufs_held c (fun b => m (c, b))]
      iintro ⟨⟨Hh, -, HO, -, -, -⟩, -⟩
      imodintro
      isplitl [Hh]; · iexact Hh
      iexists ∅; iexact HO)
    (QY := fun c s => ∀ b : Ref sig .tc, b.isScoped = false → s.mem ((c : Thread nD τ).loc b) = Vend m c (Proc.devRef .tc b))
    (hfin := fun c s' => by
      rw [show StableHlo.held (c : Thread nD τ) (Pipeline.ucRefs τ sig) (Vend m c) = unscopedBufs c (fun b => Vend m c (Proc.devRef .tc b)) from (Pipeline.unscopedBufs_held c _).symm]
      unfold unscopedBufs
      iintro ⟨Ha, HSI⟩
      ihave Hr := (pointsTo_read_all (Finset.univ.filter fun b : Ref sig .tc => ¬ b.isScoped) (fun b => (c : Thread nD τ).loc b) (fun b => Vend m c (Proc.devRef .tc b)) s') $$ [Ha HSI]
      · isplitl [Ha] <;> iassumption
      icases Hr with ⟨%ha, HSI⟩
      imodintro
      isplitr; · ipureintro; exact fun b hb => ha b (Finset.mem_filter.mpr ⟨Finset.mem_univ _, by simp [hb]⟩)
      iexact HSI)
    (hQ := fun _ h hz => ⟨h, funext fun g => hz g (.inr (by revert g; decide))⟩)

/-- A buffer none of the last host operations writes ends as the region leaves it. -/
theorem Vend_of (c : Dev nD) (b : Ref sig .tc) (h0 : b ≠ main_v0_0) (h1 : b ≠ main_v0_1) (h2 : b ≠ main_call0_v6) (h3 : b ≠ main_v0_2) :
    Vend m c (Proc.devRef .tc b) = V1 m c (Proc.devRef .tc b) :=
  StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))
/-- An array of no window leaves the region as it entered. -/
theorem V1_of (c : Dev nD) (b : Ref sig .tc) (h : ∀ w, Pipeline.arrRef spec0 w ≠ b) : V1 m c (Proc.devRef .tc b) = V m c b :=
  Pipeline.withArrays_of_ne spec0 c _ _ b h
/-- A window's array leaves it at its final contents. -/
theorem V1_arr (c : Dev nD) (w : Fin cfg0.W) : V1 m c (Proc.devRef .tc (Pipeline.arrRef spec0 w)) = finalA m c w :=
  Pipeline.withArrays_arr spec0 launch0.win.arr_inj c _ _ w

/-- The four arguments end as launched. -/
theorem Vend_arg0 (c : Dev nD) : Vend m c (Proc.devRef .tc main_arg0) = m ((c : Thread nD τ).loc main_arg0) := by
  rw [Vend_of m c main_arg0 (by decide) (by decide) (by decide) (by decide)]
  exact (V1_arr m c 0).trans ((finalA0 m c).trans (V_main_arg0 m c))
theorem Vend_arg1 (c : Dev nD) : Vend m c (Proc.devRef .tc main_arg1) = m ((c : Thread nD τ).loc main_arg1) := by
  rw [Vend_of m c main_arg1 (by decide) (by decide) (by decide) (by decide)]
  exact (V1_arr m c 1).trans ((finalA1 m c).trans (V_main_arg1 m c))
theorem Vend_arg2 (c : Dev nD) : Vend m c (Proc.devRef .tc main_arg2) = m ((c : Thread nD τ).loc main_arg2) := by
  rw [Vend_of m c main_arg2 (by decide) (by decide) (by decide) (by decide), V1_of m c main_arg2 (by decide)]
  exact V_main_arg2 m c
theorem Vend_arg3 (c : Dev nD) : Vend m c (Proc.devRef .tc main_arg3) = m ((c : Thread nD τ).loc main_arg3) := by
  rw [Vend_of m c main_arg3 (by decide) (by decide) (by decide) (by decide), V1_of m c main_arg3 (by decide)]
  exact V_main_arg3 m c

/-- The frame: @main runs, its arguments end unchanged, every counter at zero. -/
theorem frame : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run (defs (F := F)) _ _).mono (fun r h => ⟨fun c =>
    ⟨(h.1 c main_arg0 rfl).trans (Vend_arg0 m c), (h.1 c main_arg1 rfl).trans (Vend_arg1 m c),
      (h.1 c main_arg2 rfl).trans (Vend_arg2 m c), (h.1 c main_arg3 rfl).trans (Vend_arg3 m c)⟩, h.2⟩) (run_main m ρ)

end Cert.KernelIdeal.Hand

end
-- ==== Proof.Ref.lean ====
/-
  The reference's run: its results as terms of the arguments, the arguments unchanged, every counter at zero.
-/
module

public import proofs.«01_k».proof.Defs
public import proofs.«01_k».proof.Proof.Gen.ReferenceIdeal.Run
public import proofs.«01_k».proof.Proof.Gen.ReferenceIdeal.Read
public import proofs.«01_k».proof.Proof.Gen.Pre_prefix_mask
public import Idealize.ShloMosaic.Lib.Quiescent

@[expose] public section

noncomputable section

namespace Cert.ReferenceIdeal.Hand

open Idealize.ShloMosaic Idealize.SL.Sem

/-- The reference's frame. -/
theorem frame : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

end Cert.ReferenceIdeal.Hand

end
-- ==== Proof.Spec.lean ====
/-
  The mathematics of the loss, over the extended reals: the prediction, the marked rows and their number, the selected
  row, a row's square.
-/
module

public import Idealize.ShloMosaic.Lib.Pointwise

@[expose] public section

noncomputable section

namespace Cert.Flow

open Idealize.ShloMosaic
open scoped Classical

/-- Sentences or entities. -/
abbrev A3 : Type := (⟨3, ![4, 2048, 1024]⟩ : Shape).Idx → EReal
/-- The weights. -/
abbrev A2 : Type := (⟨2, ![1024, 1024]⟩ : Shape).Idx → EReal
/-- The bias. -/
abbrev A1 : Type := (⟨1, ![1024]⟩ : Shape).Idx → EReal

/-- The question of pair `i` -/
def ev (i : Fin 1024) : Fin 2048 := ⟨2 * i.val, by omega⟩
/-- and its answer. -/
def od (i : Fin 1024) : Fin 2048 := ⟨2 * i.val + 1, by omega⟩

/-- The prediction for pair `i` of batch `b`. -/
def hat (A E : A3) (W : A2) (B : A1) (b : Fin 4) (i d : Fin 1024) : EReal :=
  A (ix3 b (ev i) d) + (∑ k : Fin 1024, E (ix3 b (od i) k) * W (ix2 d k)) + B (ix1 d)

/-- Whether pair `i` of batch `b` is marked. -/
def Mk (A : A3) (b : Fin 4) (i : Fin 1024) : Prop := ∑ d : Fin 1024, A (ix3 b (ev i) d) ≠ 0

/-- How many pairs of batch `b` are marked. -/
def cnt (A : A3) (b : Fin 4) : ℕ := (Finset.univ.filter fun i => Mk A b i).card

theorem cnt_le (A : A3) (b : Fin 4) : cnt A b ≤ 1024 := (Finset.card_le_univ _).trans (by simp)

/-- The pair batch `b` selects. -/
def sel (A : A3) (b : Fin 4) : Fin 1024 :=
  if h : cnt A b = 0 then 1023 else ⟨cnt A b - 1, by have := cnt_le A b; omega⟩

/-- The square of pair `i`'s error. -/
def sq (A E : A3) (W : A2) (B : A1) (b : Fin 4) (i : Fin 1024) : EReal :=
  ∑ d : Fin 1024, (hat A E W B b i d - A (ix3 b (od i) d)) * (hat A E W B b i d - A (ix3 b (od i) d))

/-- The loss. -/
def loss (A E : A3) (W : A2) (B : A1) : EReal :=
  ∑ b : Fin 4, ∑ i : Fin 1024, if Mk A b i ∧ i.val + 1 ≠ cnt A b then sq A E W B b i else 0

end Cert.Flow

end
-- ==== Proof.RefVal.lean ====
/-
  The reference's results are the mathematics of the loss.
-/
module

public import proofs.«01_k».proof.Proof.Spec
public import proofs.«01_k».proof.Proof.Gen.ReferenceIdeal.Read
public import Idealize.ShloMosaic.Lib.Pointwise
public import Idealize.ShloMosaic.Lib.IndicatorCount
public import Idealize.ShloMosaic.Lib.IdealHost
public import Idealize.ShloMosaic.Lib.StableHlo.Predicate

@[expose] public section

set_option maxRecDepth 16384

noncomputable section

namespace Cert.ReferenceIdeal.Hand

open Cert.ReferenceIdeal Cert.ReferenceIdeal.Gen Cert.ReferenceIdeal.Read Cert.Flow
open Idealize.ShloMosaic
open scoped Classical

variable (A E : A3) (W : A2) (B : A1)

theorem v24_apply (b : Fin 4) (i d : Fin 1024) : val_main_v24 (F := Ideal) A E W B (ix3 b i d) = hat A E W B b i d := by
  pointwise [val_main_v24, val_main_v21, val_main_v0, val_main_v20, val_main_v2, val_main_v19, val_main_v23, val_main_v22]
  unfold hat
  simp only [ev, od, Nat.add_comm]

theorem v1_apply (b : Fin 4) (i d : Fin 1024) : val_main_v1 (F := Ideal) A (ix3 b i d) = A (ix3 b (od i) d) := by
  pointwise [val_main_v1]
  simp only [od, Nat.add_comm]

theorem v6_iff (b : Fin 4) (i : Fin 1024) : val_main_v6 (F := Ideal) A (ix2 b i) = 1#1 ↔ Mk A b i := by
  pointwise [val_main_v6, val_main_v4, val_main_v3, val_main_cst, val_main_v5, val_main_cst_0]
  unfold Mk
  by_cases h : ∑ d : Fin 1024, A (ix3 b (ev i) d) = 0
  · simp only [ev] at h; simp [ev, h]
  · simp only [ev] at h; simp [ev, h]

theorem v8_apply (b : Fin 4) : val_main_v8 (F := Ideal) A (ix1 b) = BitVec.ofNat 32 (cnt A b) := by
  pointwise [val_main_v8, val_main_v7, val_main_c]
  refine (IndicatorCount.fold_addi_setWidth_eq_card (fun x => val_main_v6 (F := Ideal) A (ix2 b x)) Finset.univ).trans ?_
  unfold cnt
  congr 2
  exact Finset.filter_congr fun i _ => v6_iff A b i

theorem v10_apply (b : Fin 4) : val_main_v10 (F := Ideal) A (ix1 b) = BitVec.ofNat 32 (cnt A b) - 1#32 := by
  pointwise [val_main_v10, val_main_v9, val_main_c_1]
  rw [v8_apply]
  rfl

theorem v18_iff (b : Fin 4) (i : Fin 1024) : val_main_v18 (F := Ideal) A (ix2 b i) = 1#1 ↔ Mk A b i ∧ i.val + 1 ≠ cnt A b := by
  pointwise [val_main_v18, val_main_v17, val_main_v16, val_main_v15, val_main_v13, val_main_v14, val_main_v12, val_main_v11]
  rw [v10_apply]
  have hc := cnt_le A b
  have hi := i.isLt
  have key : (~~~IntOp.cmpi .eq (BitVec.ofNat 32 i.val) (BitVec.ofNat 32 (cnt A b) - 1#32)) = 1#1 ↔ i.val + 1 ≠ cnt A b := by
    have e : BitVec.ofNat 32 i.val = BitVec.ofNat 32 (cnt A b) - 1#32 ↔ i.val + 1 = cnt A b := by
      constructor
      · intro h
        have := congrArg BitVec.toNat h
        simp only [BitVec.toNat_ofNat, BitVec.toNat_sub] at this
        omega
      · intro h
        rw [← h]
        apply BitVec.eq_of_toNat_eq
        simp only [BitVec.toNat_ofNat, BitVec.toNat_sub]
        omega
    refine Iff.trans ?_ (not_congr e)
    by_cases h : BitVec.ofNat 32 i.val = BitVec.ofNat 32 (cnt A b) - 1#32
    · simp [IntOp.cmpi, h]
    · refine iff_of_true ?_ h
      simp only [IntOp.cmpi, beq_false_of_ne h]
      rfl
  rw [← v6_iff, ← key]
  generalize val_main_v6 (F := Ideal) A (ix2 b i) = p
  generalize (~~~IntOp.cmpi .eq (BitVec.ofNat 32 i.val) (BitVec.ofNat 32 (cnt A b) - 1#32)) = q
  revert p q
  decide

theorem v47_0 (b : Fin 4) : val_main_v47 (F := Ideal) A (ix2 b 0) = BitVec.ofNat 32 b.val := by
  pointwise [val_main_v47, val_main_v45, val_main_v39, val_main_v38, val_main_v36, val_main_v34, val_main_v35, val_main_v37, val_main_c_3, val_main_c_4]
  revert b
  decide

/-- The selected row's word, past zero. -/
theorem word_pred : ∀ k : Fin 1024, Scalar.select (IntOp.cmpi .slt (BitVec.ofNat 32 (k.val + 1) - 1#32) 0#32)
    (IntOp.addi (BitVec.ofNat 32 (k.val + 1) - 1#32) 1024#32) (BitVec.ofNat 32 (k.val + 1) - 1#32) = BitVec.ofNat 32 k.val := by
  decide +kernel

theorem v47_1 (b : Fin 4) : val_main_v47 (F := Ideal) A (ix2 b 1) = BitVec.ofNat 32 (sel A b).val := by
  pointwise [val_main_v47, val_main_v46, val_main_v44, val_main_v43, val_main_v41, val_main_v40, val_main_v42, val_main_c_5, val_main_c_6]
  rw [v10_apply]
  have hc := cnt_le A b
  unfold sel
  split
  · next h => rw [h]; decide
  · next h =>
    have := word_pred ⟨cnt A b - 1, by omega⟩
    rwa [show cnt A b - 1 + 1 = cnt A b by omega] at this

/-- The row gather read at a result index: the operand at the row the start indices name. -/
theorem gather_rows (x : S4x1024x1024.Idx → EReal) (idx : IVec S4x2 32) (b : Fin 4) (k d : Fin 1024)
    (h0 : idx (ix2 b 0) = BitVec.ofNat 32 b.val) (h1 : idx (ix2 b 1) = BitVec.ofNat 32 k.val) :
    Host.gather gather_S4x1024x1024_S4x2_S4x1024_1_01_n_n_01_1_111024 x idx (ix2 b d) = x (ix3 b k d) := by
  unfold Host.gather
  refine congrArg x ((eq_ix3 _).trans ?_)
  have e0 : gather_S4x1024x1024_S4x2_S4x1024_1_01_n_n_01_1_111024.operandIdx (ix2 b d) idx 0 = b := Fin.ext <| by
    show gather_S4x1024x1024_S4x2_S4x1024_1_01_n_n_01_1_111024.start (ix2 b d) idx 0 + gather_S4x1024x1024_S4x2_S4x1024_1_01_n_n_01_1_111024.batchCoord (ix2 b d) 0 + gather_S4x1024x1024_S4x2_S4x1024_1_01_n_n_01_1_111024.offCoord (ix2 b d) 0 = b.val
    rw [GatherDims.batchCoord_eq_zero _ _ _ List.not_mem_nil, GatherDims.offCoord_eq_zero _ _ _ (by decide)]
    unfold GatherDims.start
    rw [dif_pos (by decide)]
    have hs : gather_S4x1024x1024_S4x2_S4x1024_1_01_n_n_01_1_111024.siIdx (ix2 b d) ⟨List.idxOf (0 : Fin 3) gather_S4x1024x1024_S4x2_S4x1024_1_01_n_n_01_1_111024.startIndexMap, by decide⟩ = ix2 b 0 := by
      funext a; fin_cases a <;> rfl
    have hb := b.isLt
    refine (congrArg (fun w : BitVec 32 => min w.toInt.toNat (4 - 1) + 0 + 0) ((congrArg idx hs).trans h0)).trans ?_
    show min (BitVec.ofNat 32 b.val).toInt.toNat (4 - 1) + 0 + 0 = b.val
    rw [StableHlo.Predicate.toInt_ofNat_small _ (by omega)]
    omega
  have e1 : gather_S4x1024x1024_S4x2_S4x1024_1_01_n_n_01_1_111024.operandIdx (ix2 b d) idx 1 = k := Fin.ext <| by
    show gather_S4x1024x1024_S4x2_S4x1024_1_01_n_n_01_1_111024.start (ix2 b d) idx 1 + gather_S4x1024x1024_S4x2_S4x1024_1_01_n_n_01_1_111024.batchCoord (ix2 b d) 1 + gather_S4x1024x1024_S4x2_S4x1024_1_01_n_n_01_1_111024.offCoord (ix2 b d) 1 = k.val
    rw [GatherDims.batchCoord_eq_zero _ _ _ List.not_mem_nil, GatherDims.offCoord_eq_zero _ _ _ (by decide)]
    unfold GatherDims.start
    rw [dif_pos (by decide)]
    have hs : gather_S4x1024x1024_S4x2_S4x1024_1_01_n_n_01_1_111024.siIdx (ix2 b d) ⟨List.idxOf (1 : Fin 3) gather_S4x1024x1024_S4x2_S4x1024_1_01_n_n_01_1_111024.startIndexMap, by decide⟩ = ix2 b 1 := by
      funext a; fin_cases a <;> rfl
    have hk := k.isLt
    refine (congrArg (fun w : BitVec 32 => min w.toInt.toNat (1024 - 1) + 0 + 0) ((congrArg idx hs).trans h1)).trans ?_
    show min (BitVec.ofNat 32 k.val).toInt.toNat (1024 - 1) + 0 + 0 = k.val
    rw [StableHlo.Predicate.toInt_ofNat_small _ (by omega)]
    omega
  have e2 : gather_S4x1024x1024_S4x2_S4x1024_1_01_n_n_01_1_111024.operandIdx (ix2 b d) idx 2 = d := Fin.ext <| by
    show gather_S4x1024x1024_S4x2_S4x1024_1_01_n_n_01_1_111024.start (ix2 b d) idx 2 + gather_S4x1024x1024_S4x2_S4x1024_1_01_n_n_01_1_111024.batchCoord (ix2 b d) 2 + gather_S4x1024x1024_S4x2_S4x1024_1_01_n_n_01_1_111024.offCoord (ix2 b d) 2 = d.val
    rw [GatherDims.batchCoord_eq_zero _ _ _ List.not_mem_nil]
    unfold GatherDims.start GatherDims.offCoord
    rw [dif_neg (by decide), dif_pos (by decide)]
    exact (Nat.zero_add _).trans rfl
  rw [e0, e1, e2]

theorem v48_apply (b : Fin 4) (d : Fin 1024) : val_main_v48 (F := Ideal) A E W B (ix2 b d) = hat A E W B b (sel A b) d :=
  (gather_rows _ _ b (sel A b) d (v47_0 A b) (v47_1 A b)).trans (v24_apply A E W B b _ d)

theorem v62_apply (b : Fin 4) (d : Fin 1024) : val_main_v62 (F := Ideal) A (ix2 b d) = A (ix3 b (od (sel A b)) d) :=
  (gather_rows _ _ b (sel A b) d (v47_0 A b) (v47_1 A b)).trans (v1_apply A b _ d)

theorem v32_apply (b : Fin 4) (i d : Fin 1024) : val_main_v32 (F := Ideal) A E W B (ix3 b i d)
    = if Mk A b i ∧ i.val + 1 ≠ cnt A b then (hat A E W B b i d - A (ix3 b (od i) d)) * (hat A E W B b i d - A (ix3 b (od i) d)) else 0 := by
  pointwise [val_main_v32, val_main_v31, val_main_v30, val_main_v28, val_main_v27, val_main_v29, val_main_v26, val_main_v25]
  rw [v24_apply, v1_apply]
  by_cases h : val_main_v18 (F := Ideal) A (ix2 b i) = 1#1
  · rw [if_pos ((v18_iff A b i).mp h), h]
    have e : (FloatOps.uitofp .f32 (1#1 : BitVec 1) : Ideal .f32) = (1 : EReal) := by
      show (((1#1 : BitVec 1).toNat : ℝ) : EReal) = 1
      simp
    rw [e, mul_one, mul_one]
  · rw [if_neg (fun k => h ((v18_iff A b i).mpr k))]
    have h0 : val_main_v18 (F := Ideal) A (ix2 b i) = 0#1 := by
      revert h
      generalize val_main_v18 (F := Ideal) A (ix2 b i) = p
      revert p
      decide
    have e : (FloatOps.uitofp .f32 (0#1 : BitVec 1) : Ideal .f32) = (0 : EReal) := by
      show (((0#1 : BitVec 1).toNat : ℝ) : EReal) = 0
      simp
    rw [h0, e, mul_zero, mul_zero]
    simp

theorem sum_ix3 {n0 n1 n2 : ℕ} (f : (⟨3, ![n0, n1, n2]⟩ : Shape).Idx → EReal) : ∑ j, f j = ∑ a, ∑ b, ∑ c, f (ix3 a b c) := by
  let e : Fin n0 × Fin n1 × Fin n2 ≃ (⟨3, ![n0, n1, n2]⟩ : Shape).Idx :=
    ⟨fun p => ix3 p.1 p.2.1 p.2.2, fun j => (j 0, j 1, j 2), fun _ => rfl, fun j => (eq_ix3 j).symm⟩
  rw [← Equiv.sum_comp e f, Fintype.sum_prod_type]
  exact Finset.sum_congr rfl fun a _ => Fintype.sum_prod_type _

theorem v33_apply (j : S_.Idx) : val_main_v33 (F := Ideal) A E W B j = loss A E W B := by
  rw [val_main_v33_apply]
  have e : (val_main_cst_2 (F := Ideal)) (Shape.Idx.first h_S_) = (0 : EReal) := by
    pointwise [val_main_cst_2]
  rw [e, zero_add]
  refine (sum_ix3 (n0 := 4) (n1 := 1024) (n2 := 1024) _).trans ?_
  unfold loss Flow.sq
  refine Finset.sum_congr rfl fun b _ => Finset.sum_congr rfl fun i _ => ?_
  split
  · next h => exact Finset.sum_congr rfl fun d _ => (v32_apply A E W B b i d).trans (if_pos h)
  · next h => exact Finset.sum_eq_zero fun d _ => (v32_apply A E W B b i d).trans (if_neg h)

end Cert.ReferenceIdeal.Hand

end
-- ==== Proof.PayI.lean ====
/-
  The body's vector expressions over the extended reals, read at an index.
-/
module

public import proofs.«01_k».proof.Proof.DataI
public import Idealize.ShloMosaic.Lib.Pointwise
public import Idealize.ShloMosaic.Lib.KernelVsHost

@[expose] public section

set_option maxRecDepth 16384

noncomputable section

namespace Cert.KernelIdeal.Hand

open Cert.KernelIdeal Cert.KernelIdeal.Gen
open Idealize.ShloMosaic

theorem pay3_apply (x : Vec Ideal S1x1024x1024 .f32) (r d : Fin 1024) : k0_pay3 x (ix2 r d) = x (ix3 0 r d) := by
  pointwise [k0_pay3]

theorem pay5_apply (x : Vec Ideal S1x1024x1024 .f32) (r : Fin 1024) :
    k0_pay5 x (ix2 r 0) = 1#1 ↔ ∑ d : Fin 1024, x (ix3 0 r d) ≠ 0 := by
  pointwise [k0_pay5]
  rw [show (∑ d : Fin 1024, k0_pay3 x (ix2 r d)) = ∑ d : Fin 1024, x (ix3 0 r d) from Finset.sum_congr rfl fun d _ => pay3_apply x r d]
  by_cases h : ∑ d : Fin 1024, x (ix3 0 r d) = 0
  · simp [h]
  · simp [h]

theorem pay4_apply (x e : Vec Ideal S1x1024x1024 .f32) (w : Vec Ideal S1024x1024 .bf16) (b : Vec Ideal S1x1024 .f32) (r r' d : Fin 1024) (h : r'.val = r.val + 1) :
    k0_pay4 x e w b (ix2 r d)
      = x (ix3 0 r d) + ((∑ k : Fin 1024, e (ix3 0 r' k) * w (ix2 k d)) - x (ix3 0 r' d)) + b (ix2 0 d) := by
  pointwise [k0_pay4]
  have e : (⟨(r.val + 1024 - 1023) % 1024, Nat.mod_lt _ (by decide)⟩ : Fin 1024) = r' := Fin.ext (by
    have := r'.isLt
    show (r.val + 1024 - 1023) % 1024 = r'.val
    omega)
  rw [pay3_apply, e, pay3_apply]

theorem pay12_apply (q : Vec Ideal S1x1024 .f32) (e : Vec Ideal S1x1024 .f32) (w : Vec Ideal S1024x1024 .bf16) (b : Vec Ideal S1x1024 .f32) (d : Fin 1024) :
    k0_pay12 q (k0_pay1 e) w b (ix2 0 d) = q (ix2 0 d) + (∑ k : Fin 1024, e (ix2 0 k) * w (ix2 k d)) + b (ix2 0 d) := by
  pointwise [k0_pay12, k0_pay1]

theorem pay13_apply (q : Vec Ideal S1x1024 .f32) (e : FVec Ideal S1x1024 .bf16) (w : Vec Ideal S1024x1024 .bf16) (b : Vec Ideal S1x1024 .f32) (d : Fin 1024) :
    k0_pay13 q e w b (ix3 0 0 d) = k0_pay12 q e w b (ix2 0 d) := by
  pointwise [k0_pay13]

theorem pay14_apply (a : Vec Ideal S1x1024 .f32) (d : Fin 1024) : k0_pay14 a (ix3 0 0 d) = a (ix2 0 d) := by
  pointwise [k0_pay14]

theorem pay15_apply (q a : Vec Ideal S1x1024 .f32) (e : FVec Ideal S1x1024 .bf16) (w : Vec Ideal S1024x1024 .bf16) (b : Vec Ideal S1x1024 .f32)
    (n : BitVec 32) (l : Vec Ideal S1x128 .f32) (acc : EReal) (j : Fin 128) :
    k0_pay15 q a e w b n l acc (ix2 0 j) = l (ix2 0 j) + (acc - if Scalar.cmpi .sgt n 0#32 = 1#1 then
      ∑ d : Fin 1024, (k0_pay12 q e w b (ix2 0 d) - a (ix2 0 d)) * (k0_pay12 q e w b (ix2 0 d) - a (ix2 0 d)) else 0) := by
  pointwise [k0_pay15]
  rw [show ∀ f : EReal, (∑ _x : Fin 1, f) = f from fun f => by simp]
  rfl

theorem accN_eq (x e : Vec Ideal S1x1024x1024 .f32) (w : Vec Ideal S1024x1024 .bf16) (b : Vec Ideal S1x1024 .f32) (a : EReal) :
    accN x e w b a = a + ∑ r : Fin 1024, if mk x (ix2 r 0) = 1#1 then
      ∑ d : Fin 1024, k0_pay4 x e w b (ix2 r d) * k0_pay4 x e w b (ix2 r d) else 0 := by
  pointwise [accN, k0_pay9]
  rw [show ∀ f : Fin 1024 → EReal, (∑ x : Fin 1024, ∑ _y : Fin 1, f x) = ∑ x : Fin 1024, f x from fun f => by simp]
  rfl

end Cert.KernelIdeal.Hand

end
-- ==== Proof.BlkI.lean ====
/-
  The pipeline's blocks and final arrays read at an index, over any arithmetic.
-/
module

public import proofs.«01_k».proof.Proof.RunI
public import Idealize.ShloMosaic.Lib.PointwiseCore
public import Idealize.ShloMosaic.Lib.Pipeline.Value
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-! ## The blocks -/

/-- Row `r` of the tile at point `n` as a row of its batch. -/
def tr (n : ℕ) (r : Fin 1024) : Fin 2048 := ⟨1024 * (n % 2) + r.val, by have := r.isLt; omega⟩

theorem tile_at (A : S4x2048x1024.Idx → Elt F .f32) (n : ℕ) (hn : n < 8) (r d : Fin 1024) (t : Fin cfg0.N) (ht : t.val = n)
    (i : S4x2048x1024.Idx) (h0 : (i 0).val = (grid0.coords t 0).val + 0) (h1 : (i 1).val = (grid0.coords t 1).val * 1024 + r.val)
    (h2 : (i 2).val = d.val) : A i = A (ix3 (bF (n / 2)) (tr n r) d) := by
  congr 1
  refine (eq_ix3 i).trans ?_
  have e0 : i 0 = bF (n / 2) := Fin.ext (by rw [h0, co0, ht]; rfl)
  have e1 : i 1 = tr n r := Fin.ext (by rw [h1, co1, ht]; show _ = 1024 * (n % 2) + r.val; omega)
  have e2 : i 2 = d := Fin.ext h2
  rw [e0, e1, e2]

theorem xB_apply (n : ℕ) (hn : n < 8) (r d : Fin 1024) :
    xB m c n (ix3 0 r d) = m ((c : Thread nD τ).loc main_arg0) (ix3 (bF (n / 2)) (tr n r) d) := by
  have hp : (pN n).val = n := Nat.mod_eq_of_lt hn
  rw [← V_main_arg0 m c]
  exact tile_at (V m c main_arg0) n hn r d (pN n) hp (((cfg0.win 0).blk (pN n)).view.emb (ix3 0 r d))
    (by
      refine (Window.rect_emb_val win0_0 (pN n) (ix3 0 r d) 0).trans ?_
      show (BitVec.ofNat 32 (grid0.coords (pN n) 0).val).toNat * 1 + 0 = _
      have := (grid0.coords (pN n) 0).isLt
      rw [BitVec.toNat_ofNat, Nat.mod_eq_of_lt (Nat.lt_trans this (by decide))]; omega)
    (by
      refine (Window.rect_emb_val win0_0 (pN n) (ix3 0 r d) 1).trans ?_
      show (BitVec.ofNat 32 (grid0.coords (pN n) 1).val).toNat * 1024 + r.val = _
      have := (grid0.coords (pN n) 1).isLt
      rw [BitVec.toNat_ofNat, Nat.mod_eq_of_lt (Nat.lt_trans this (by decide))])
    (by
      refine (Window.rect_emb_val win0_0 (pN n) (ix3 0 r d) 2).trans ?_
      show 0 * 1024 + d.val = _
      omega)

theorem eB_apply (n : ℕ) (hn : n < 8) (r d : Fin 1024) :
    eB m c n (ix3 0 r d) = m ((c : Thread nD τ).loc main_arg1) (ix3 (bF (n / 2)) (tr n r) d) := by
  have hp : (pN n).val = n := Nat.mod_eq_of_lt hn
  rw [← V_main_arg1 m c]
  exact tile_at (V m c main_arg1) n hn r d (pN n) hp (((cfg0.win 1).blk (pN n)).view.emb (ix3 0 r d))
    (by
      refine (Window.rect_emb_val win0_1 (pN n) (ix3 0 r d) 0).trans ?_
      show (BitVec.ofNat 32 (grid0.coords (pN n) 0).val).toNat * 1 + 0 = _
      have := (grid0.coords (pN n) 0).isLt
      rw [BitVec.toNat_ofNat, Nat.mod_eq_of_lt (Nat.lt_trans this (by decide))]; omega)
    (by
      refine (Window.rect_emb_val win0_1 (pN n) (ix3 0 r d) 1).trans ?_
      show (BitVec.ofNat 32 (grid0.coords (pN n) 1).val).toNat * 1024 + r.val = _
      have := (grid0.coords (pN n) 1).isLt
      rw [BitVec.toNat_ofNat, Nat.mod_eq_of_lt (Nat.lt_trans this (by decide))])
    (by
      refine (Window.rect_emb_val win0_1 (pN n) (ix3 0 r d) 2).trans ?_
      show 0 * 1024 + d.val = _
      omega)

theorem wB_apply (n : ℕ) (k d : Fin 1024) :
    wB m c n (ix2 k d) = FloatOps.truncf .bf16 bitsLt_bf16_f32 (m ((c : Thread nD τ).loc main_arg2) (ix2 d k) : Elt F .f32) := by
  have e : ((cfg0.win 2).blk (pN n)).view.emb (ix2 k d) = ix2 k d := by
    refine (eq_ix2 _).trans ?_
    have e0 : ((cfg0.win 2).blk (pN n)).view.emb (ix2 k d) 0 = k := Fin.ext (Window.rect_emb_val_of_index_zero win0_2 (pN n) 0 rfl (ix2 k d))
    have e1 : ((cfg0.win 2).blk (pN n)).view.emb (ix2 k d) 1 = d := Fin.ext (Window.rect_emb_val_of_index_zero win0_2 (pN n) 1 rfl (ix2 k d))
    rw [e0, e1]
  show StableHlo.after hostOps0 (fun b => m (c, b)) (Proc.devRef .tc main_call0_v2) (((cfg0.win 2).blk (pN n)).view.emb (ix2 k d)) = _
  rw [e]
  entry_read
  show FloatOps.truncf .bf16 bitsLt_bf16_f32 (transpose S1024x1024 [1, 0] (m ((c : Thread nD τ).loc main_arg2)) transposes_S1024x1024_S1024x1024_1_0 (ix2 k d)) = _
  pointwise []

theorem bB_apply (n : ℕ) (d : Fin 1024) :
    bB m c n (ix2 0 d) = m ((c : Thread nD τ).loc main_arg3) (ix1 d) := by
  have e : ((cfg0.win 3).blk (pN n)).view.emb (ix2 0 d) = ix2 0 d := by
    refine (eq_ix2 _).trans ?_
    have e0 : ((cfg0.win 3).blk (pN n)).view.emb (ix2 0 d) 0 = (0 : Fin 1) := Fin.ext (Window.rect_emb_val_of_index_zero win0_3 (pN n) 0 rfl (ix2 0 d))
    have e1 : ((cfg0.win 3).blk (pN n)).view.emb (ix2 0 d) 1 = d := Fin.ext (Window.rect_emb_val_of_index_zero win0_3 (pN n) 1 rfl (ix2 0 d))
    rw [e0, e1]
  show StableHlo.after hostOps0 (fun b => m (c, b)) (Proc.devRef .tc main_call0_v0) (((cfg0.win 3).blk (pN n)).view.emb (ix2 0 d)) = _
  rw [e]
  entry_read
  refine shapeCast_apply _ _ (ix2 (0 : Fin 1) d) (ix1 d) ?_
  rw [Shape.rowMajor_val_two, Shape.rowMajor_val_one]
  show d.val = 0 * 1024 + d.val
  omega

/-! ## The results -/

theorem mem_of_emb {sig : RefSig} {κ : Kind} {sp : Space} {s : Shape} {e : EltTy} (v : View sig κ sp s e) (y : s.Idx) (i : v.ty.Idx)
    (h : v.emb y = i) : i ∈ v.set := h ▸ v.emb_mem_set y

theorem unit_eq (y : S1x1x1024.Idx) : y = ix3 0 0 (y 2) := by
  refine (eq_ix3 y).trans ?_
  have e0 : y 0 = (0 : Fin 1) := Subsingleton.elim (α := Fin 1) _ _
  have e1 : y 1 = (0 : Fin 1) := Subsingleton.elim (α := Fin 1) _ _
  rw [e0, e1]
  rfl

/-! The array of predictions, -/

theorem emb4 (t : Fin cfg0.N) (y : S1x1x1024.Idx) : ((cfg0.win 4).blk t).view.emb y = ix3 (bF (t.val / 2)) (0 : Fin 1) (y 2) := by
  refine (eq_ix3 _).trans ?_
  have e0 : ((cfg0.win 4).blk t).view.emb y 0 = bF (t.val / 2) := Fin.ext <| by
    refine (Window.rect_emb_val win0_4 t y 0).trans ?_
    show (BitVec.ofNat 32 (grid0.coords t 0).val).toNat * 1 + (y 0).val = _
    have h1 := (grid0.coords t 0).isLt
    have h2 : (y 0).val < 1 := (y 0).isLt
    rw [BitVec.toNat_ofNat, Nat.mod_eq_of_lt (Nat.lt_trans h1 (by decide)), co0]
    omega
  have e1 : ((cfg0.win 4).blk t).view.emb y 1 = (0 : Fin 1) := Subsingleton.elim (α := Fin 1) _ _
  have e2 : ((cfg0.win 4).blk t).view.emb y 2 = y 2 := Fin.ext (Window.rect_emb_val_of_index_zero win0_4 t 2 rfl y)
  rw [e0, e1, e2]
  rfl

theorem final4 : finalA m c 4 = fun i : S4x1x1024.Idx => hatB m c (i 0).val (ix3 0 0 (i 2)) := by
  refine (dats m 0 c).arrAt_eq_of_cover 4 _ ?_ ?_
  · intro t hf
    have h8 := t_lt t
    funext y
    refine Eq.trans ?_ (congrArg (fun i : S4x1x1024.Idx => hatB m c (i 0).val (ix3 0 0 (i 2))) (emb4 t y)).symm
    show hatB m c (t.val / 2) y = hatB m c (t.val / 2 % 4) (ix3 0 0 (y 2))
    rw [Nat.mod_eq_of_lt (by omega)]
    exact congrArg (hatB m c (t.val / 2)) (unit_eq y)
  · intro (i : S4x1x1024.Idx)
    have hi : (i 0).val < 4 := (i 0).isLt
    have hN : 2 * (i 0).val + 1 < cfg0.N := by rw [show cfg0.N = 8 from N_0]; omega
    refine ⟨⟨2 * (i 0).val + 1, hN⟩, (flush0_4 _).mpr (by show (2 * (i 0).val + 1) % 2 = 1; omega), ?_⟩
    have e0 : bF ((2 * (i 0).val + 1) / 2) = i 0 := Fin.ext (by show (2 * (i 0).val + 1) / 2 % 4 = (i 0).val; omega)
    have e1 : (0 : Fin 1) = i 1 := Subsingleton.elim (α := Fin 1) _ _
    refine mem_of_emb _ (ix3 0 0 (i 2)) i ((emb4 ⟨2 * (i 0).val + 1, hN⟩ (ix3 0 0 (i 2))).trans ?_)
    refine Eq.trans ?_ (eq_ix3 i).symm
    show ix3 (bF ((2 * (i 0).val + 1) / 2)) (0 : Fin 1) (i 2) = _
    rw [e0, e1]
    rfl

/-! the array of answers -/

theorem emb5 (t : Fin cfg0.N) (y : S1x1x1024.Idx) : ((cfg0.win 5).blk t).view.emb y = ix3 (bF (t.val / 2)) (0 : Fin 1) (y 2) := by
  refine (eq_ix3 _).trans ?_
  have e0 : ((cfg0.win 5).blk t).view.emb y 0 = bF (t.val / 2) := Fin.ext <| by
    refine (Window.rect_emb_val win0_5 t y 0).trans ?_
    show (BitVec.ofNat 32 (grid0.coords t 0).val).toNat * 1 + (y 0).val = _
    have h1 := (grid0.coords t 0).isLt
    have h2 : (y 0).val < 1 := (y 0).isLt
    rw [BitVec.toNat_ofNat, Nat.mod_eq_of_lt (Nat.lt_trans h1 (by decide)), co0]
    omega
  have e1 : ((cfg0.win 5).blk t).view.emb y 1 = (0 : Fin 1) := Subsingleton.elim (α := Fin 1) _ _
  have e2 : ((cfg0.win 5).blk t).view.emb y 2 = y 2 := Fin.ext (Window.rect_emb_val_of_index_zero win0_5 t 2 rfl y)
  rw [e0, e1, e2]
  rfl

theorem final5 : finalA m c 5 = fun i : S4x1x1024.Idx => ansB m c (i 0).val (ix3 0 0 (i 2)) := by
  refine (dats m 0 c).arrAt_eq_of_cover 5 _ ?_ ?_
  · intro t hf
    have h8 := t_lt t
    funext y
    refine Eq.trans ?_ (congrArg (fun i : S4x1x1024.Idx => ansB m c (i 0).val (ix3 0 0 (i 2))) (emb5 t y)).symm
    show ansB m c (t.val / 2) y = ansB m c (t.val / 2 % 4) (ix3 0 0 (y 2))
    rw [Nat.mod_eq_of_lt (by omega)]
    exact congrArg (ansB m c (t.val / 2)) (unit_eq y)
  · intro (i : S4x1x1024.Idx)
    have hi : (i 0).val < 4 := (i 0).isLt
    have hN : 2 * (i 0).val + 1 < cfg0.N := by rw [show cfg0.N = 8 from N_0]; omega
    refine ⟨⟨2 * (i 0).val + 1, hN⟩, (flush0_5 _).mpr (by show (2 * (i 0).val + 1) % 2 = 1; omega), ?_⟩
    have e0 : bF ((2 * (i 0).val + 1) / 2) = i 0 := Fin.ext (by show (2 * (i 0).val + 1) / 2 % 4 = (i 0).val; omega)
    have e1 : (0 : Fin 1) = i 1 := Subsingleton.elim (α := Fin 1) _ _
    refine mem_of_emb _ (ix3 0 0 (i 2)) i ((emb5 ⟨2 * (i 0).val + 1, hN⟩ (ix3 0 0 (i 2))).trans ?_)
    refine Eq.trans ?_ (eq_ix3 i).symm
    show ix3 (bF ((2 * (i 0).val + 1) / 2)) (0 : Fin 1) (i 2) = _
    rw [e0, e1]
    rfl

theorem res0 (b : Fin 4) (d : Fin 1024) : Vend m c (Proc.devRef .tc main_v0_0) (ix2 b d) = hatB m c b.val (ix3 0 0 d) := by
  unfold Vend
  entry_read
  rw [show V1 m c (Proc.devRef .tc main_call0_v3_0) = _ from (V1_arr m c 4).trans (final4 m c)]
  refine (shapeCast_apply _ _ (ix2 b d) (ix3 b (0 : Fin 1) d) ?_).trans rfl
  rw [Shape.rowMajor_val_two, Shape.rowMajor_val_three]
  show (b.val * 1 + 0) * 1024 + d.val = b.val * 1024 + d.val
  omega

theorem res1 (b : Fin 4) (d : Fin 1024) : Vend m c (Proc.devRef .tc main_v0_1) (ix2 b d) = ansB m c b.val (ix3 0 0 d) := by
  unfold Vend
  entry_read
  rw [show V1 m c (Proc.devRef .tc main_call0_v3_1) = _ from (V1_arr m c 5).trans (final5 m c)]
  refine (shapeCast_apply _ _ (ix2 b d) (ix3 b (0 : Fin 1) d) ?_).trans rfl
  rw [Shape.rowMajor_val_two, Shape.rowMajor_val_three]
  show (b.val * 1 + 0) * 1024 + d.val = b.val * 1024 + d.val
  omega

/-! and the loss block. -/

theorem emb6 (t : Fin cfg0.N) (y : S1x128.Idx) : ((cfg0.win 6).blk t).view.emb y = y :=
  funext fun a => Fin.ext (Window.rect_emb_val_of_index_zero win0_6 t a (by fin_cases a <;> rfl) y)

theorem final6 : finalA m c 6 = fun i : S1x128.Idx => lossB m c 4 i := by
  refine (dats m 0 c).arrAt_eq_of_cover 6 _ ?_ ?_
  · intro t hf
    have h7 : t.val % 8 = 7 := (flush0_6 t).mp hf
    have h8 := t_lt t
    funext y
    refine Eq.trans ?_ (congrArg (fun i : S1x128.Idx => lossB m c 4 i) (emb6 t y)).symm
    show lossB m c ((t.val + 1) / 2) y = lossB m c 4 y
    rw [show (t.val + 1) / 2 = 4 by omega]
  · intro (i : S1x128.Idx)
    have hN : 7 < cfg0.N := by rw [show cfg0.N = 8 from N_0]; decide
    refine ⟨⟨7, hN⟩, (flush0_6 _).mpr rfl, ?_⟩
    exact mem_of_emb ((cfg0.win 6).blk ⟨7, hN⟩).view i i (emb6 ⟨7, hN⟩ i)

theorem res2 (j : S_.Idx) : Vend m c (Proc.devRef .tc main_v0_2) j = lossB m c 4 (ix2 0 0) := by
  unfold Vend
  entry_read
  rw [show V1 m c (Proc.devRef .tc main_call0_v3_2) = _ from (V1_arr m c 6).trans (final6 m c)]
  refine (shapeCast_apply _ _ j (ix2 (0 : Fin 1) (0 : Fin 1)) ?_).trans ?_
  · rfl
  · rfl

end Cert.KernelIdeal.Hand

end
-- ==== Proof.Comb.lean ====
/-
  The counting and the sums behind the loss: the marked pairs as an initial segment, a batch's rows as two tiles of
  pairs, and the selected pair's square taken out of a sum of squares.
-/
module

public import proofs.«01_k».proof.Proof.Spec

@[expose] public section

noncomputable section

namespace Cert.Flow

open Idealize.ShloMosaic
open scoped Classical

/-! ## Finite values -/

/-- A finite value: a real. -/
def Rl (a : EReal) : Prop := ∃ x : ℝ, a = x

theorem Rl.add {a b : EReal} : Rl a → Rl b → Rl (a + b)
  | ⟨x, hx⟩, ⟨y, hy⟩ => ⟨x + y, by rw [hx, hy, EReal.coe_add]⟩
theorem Rl.mul {a b : EReal} : Rl a → Rl b → Rl (a * b)
  | ⟨x, hx⟩, ⟨y, hy⟩ => ⟨x * y, by rw [hx, hy, EReal.coe_mul]⟩
theorem Rl.sub {a b : EReal} : Rl a → Rl b → Rl (a - b)
  | ⟨x, hx⟩, ⟨y, hy⟩ => ⟨x - y, by rw [hx, hy, EReal.coe_sub]⟩
theorem Rl.sum {ι : Type} (s : Finset ι) (f : ι → EReal) (h : ∀ i, Rl (f i)) : Rl (∑ i ∈ s, f i) :=
  Finset.sum_induction f Rl (fun _ _ => Rl.add) ⟨0, rfl⟩ fun i _ => h i

/-- A value whose absolute value is below infinity is finite. -/
theorem rl_of_abs {a : EReal} (h : max a (-a) < ⊤) : Rl a := by
  induction a with
  | bot => simp at h
  | top => simp at h
  | coe x => exact ⟨x, rfl⟩

section
variable {A E : A3} {W : A2} {B : A1} (hA : ∀ i, Rl (A i)) (hE : ∀ i, Rl (E i)) (hW : ∀ i, Rl (W i)) (hB : ∀ i, Rl (B i))
include hA hE hW hB

theorem hat_rl (b : Fin 4) (i d : Fin 1024) : Rl (hat A E W B b i d) :=
  ((hA _).add (Rl.sum _ _ fun _ => (hE _).mul (hW _))).add (hB _)

theorem sq_rl (b : Fin 4) (i : Fin 1024) : Rl (sq A E W B b i) :=
  Rl.sum _ _ fun d => ((hat_rl hA hE hW hB b i d).sub (hA _)).mul ((hat_rl hA hE hW hB b i d).sub (hA _))
end

/-- One finite term taken out of a sum over the marked. -/
theorem sum_sub_one {ι : Type} [Fintype ι] (M : ι → Prop) (f : ι → EReal) (k : ι) (hk : M k) (hf : Rl (f k)) :
    (∑ i, if M i then f i else 0) - f k = ∑ i, if M i ∧ i ≠ k then f i else 0 := by
  obtain ⟨x, hx⟩ := hf
  rw [← Finset.add_sum_erase Finset.univ (fun i => if M i then f i else 0) (Finset.mem_univ k),
    ← Finset.add_sum_erase Finset.univ (fun i => if M i ∧ i ≠ k then f i else 0) (Finset.mem_univ k)]
  rw [show (if M k then f k else 0) = f k from if_pos hk, show (if M k ∧ k ≠ k then f k else 0) = 0 from if_neg fun h => h.2 rfl, hx,
    EReal.add_sub_cancel_left, zero_add]
  refine Finset.sum_congr rfl fun i hi => ?_
  have hi := Finset.ne_of_mem_erase hi
  by_cases h : M i
  · rw [if_pos h, if_pos ⟨h, hi⟩]
  · rw [if_neg h, if_neg fun h' => h h'.1]

/-! ## The marked pairs -/

/-- The marked pairs come first. -/
def Pfx (A : A3) (b : Fin 4) : Prop := ∀ i j : Fin 1024, j.val = i.val + 1 → Mk A b j → Mk A b i

section
variable {A : A3} {b : Fin 4} (h : Pfx A b)
include h

theorem Pfx.down (n : ℕ) : ∀ i j : Fin 1024, j.val = i.val + n → Mk A b j → Mk A b i := by
  induction n with
  | zero => intro i j e hj; rwa [show i = j from Fin.ext e.symm]
  | succ n ih =>
    intro i j e hj
    have := j.isLt
    exact ih i ⟨i.val + n, by omega⟩ rfl (h _ j e hj)

/-- The marked pairs are the first so many. -/
theorem mk_iff_lt (i : Fin 1024) : Mk A b i ↔ i.val < cnt A b := by
  constructor
  · intro hi
    have := Finset.card_le_card (s := Finset.Iic i) (t := Finset.univ.filter fun i => Mk A b i) fun j hj =>
      Finset.mem_filter.2 ⟨Finset.mem_univ _, Pfx.down h (i.val - j.val) j i (by have h1 : j ≤ i := Finset.mem_Iic.1 hj; have h2 : j.val ≤ i.val := h1; omega) hi⟩
    rw [Fin.card_Iic] at this
    exact this
  · intro hi
    by_contra hn
    have := Finset.card_le_card (s := Finset.univ.filter fun i => Mk A b i) (t := Finset.Iio i) fun j hj => by
      refine Finset.mem_Iio.2 (not_le.1 fun hle => hn ?_)
      have hle : i.val ≤ j.val := hle
      exact Pfx.down h (j.val - i.val) i j (by omega) (Finset.mem_filter.1 hj).2
    rw [Fin.card_Iio] at this
    exact absurd hi (not_lt.2 this)
end

/-! ## The rows of a batch as two tiles -/

/-- The pair of row `r` of tile `p`. -/
def pr (p : Fin 2) (r : Fin 1024) : Fin 1024 := ⟨512 * p.val + r.val / 2, by omega⟩

/-- A sum over the pairs is a sum over the two tiles' even rows. -/
theorem sum_rows {M : Type} [AddCommMonoid M] (f : Fin 1024 → M) :
    (∑ r : Fin 1024, if r.val % 2 = 0 then f (pr 0 r) else 0) + (∑ r : Fin 1024, if r.val % 2 = 0 then f (pr 1 r) else 0) = ∑ i, f i := by
  have hrow : ∀ p : Fin 2, (∑ r : Fin 1024, if r.val % 2 = 0 then f (pr p r) else 0) = ∑ q : Fin 512, f ⟨512 * p.val + q.val, by omega⟩ := by
    intro p
    rw [← Finset.sum_filter]
    refine Finset.sum_bij' (fun r _ => (⟨r.val / 2, by omega⟩ : Fin 512)) (fun q _ => (⟨2 * q.val, by omega⟩ : Fin 1024))
      (fun _ _ => Finset.mem_univ _) (fun q _ => Finset.mem_filter.2 ⟨Finset.mem_univ _, by show 2 * q.val % 2 = 0; omega⟩)
      (fun r hr => Fin.ext (by have := (Finset.mem_filter.1 hr).2; show 2 * (r.val / 2) = r.val; omega))
      (fun q _ => Fin.ext (by show 2 * q.val / 2 = q.val; omega)) (fun r _ => rfl)
  rw [hrow, hrow]
  refine Eq.trans ?_ (Fin.sum_univ_add (a := 512) (b := 512) f).symm
  refine congrArg₂ (· + ·) (Finset.sum_congr rfl fun q _ => congrArg f (Fin.ext ?_)) rfl
  show 512 * 0 + q.val = q.val
  omega

/-- How many pairs are marked, by tile. -/
theorem cnt_tiles (A : A3) (b : Fin 4) :
    (Finset.univ.filter fun r : Fin 1024 => r.val % 2 = 0 ∧ Mk A b (pr 0 r)).card
      + (Finset.univ.filter fun r : Fin 1024 => r.val % 2 = 0 ∧ Mk A b (pr 1 r)).card = cnt A b := by
  unfold cnt
  rw [Finset.card_filter, Finset.card_filter, Finset.card_filter, ← sum_rows fun i => if Mk A b i then 1 else 0]
  refine congrArg₂ (· + ·) ?_ ?_
  all_goals
    refine Finset.sum_congr rfl fun r _ => ?_
    by_cases h : r.val % 2 = 0
    · simp only [h, true_and, if_true]
    · simp only [h, false_and, if_false]

end Cert.Flow

end
-- ==== Proof.ValI.lean ====
/-
  The kernel's results over the extended reals are the mathematics of the loss, where the marked pairs come first and the
  arguments are finite.
-/
module

public import proofs.«01_k».proof.Proof.PayI
public import proofs.«01_k».proof.Proof.BlkI
public import proofs.«01_k».proof.Proof.Comb

@[expose] public section

set_option maxRecDepth 16384

noncomputable section

namespace Cert.KernelIdeal.Hand

open Cert.KernelIdeal Cert.KernelIdeal.Gen Cert.Flow
open Idealize.ShloMosaic Idealize.ShloMosaic.TcCoe
open scoped Classical

variable (m : (ℓ : Loc nD τ sig) → Buf (Elt Ideal) ℓ) (c : Dev nD)

/-- The sentences, -/
abbrev mA : A3 := m ((c : Thread nD τ).loc main_arg0)
/-- the entities, -/
abbrev mE : A3 := m ((c : Thread nD τ).loc main_arg1)
/-- the weights -/
abbrev mW : A2 := m ((c : Thread nD τ).loc main_arg2)
/-- and the bias. -/
abbrev mB : A1 := m ((c : Thread nD τ).loc main_arg3)

theorem bF_val (b : Fin 4) : bF b.val = b := Fin.ext (Nat.mod_eq_of_lt b.isLt)

theorem x_at (b : Fin 4) (p : Fin 2) (r d : Fin 1024) (s : Fin 2048) (hs : s.val = 1024 * p.val + r.val) :
    xB m c (2 * b.val + p.val) (ix3 0 r d) = mA m c (ix3 b s d) := by
  refine (xB_apply m c _ (by omega) r d).trans ?_
  rw [show (2 * b.val + p.val) / 2 = b.val by omega, bF_val, show tr (2 * b.val + p.val) r = s from Fin.ext (by
    show 1024 * ((2 * b.val + p.val) % 2) + r.val = s.val
    omega)]

theorem e_at (b : Fin 4) (p : Fin 2) (r d : Fin 1024) (s : Fin 2048) (hs : s.val = 1024 * p.val + r.val) :
    eB m c (2 * b.val + p.val) (ix3 0 r d) = mE m c (ix3 b s d) := by
  refine (eB_apply m c _ (by omega) r d).trans ?_
  rw [show (2 * b.val + p.val) / 2 = b.val by omega, bF_val, show tr (2 * b.val + p.val) r = s from Fin.ext (by
    show 1024 * ((2 * b.val + p.val) % 2) + r.val = s.val
    omega)]

theorem w_at (n : ℕ) (k d : Fin 1024) : wB m c n (ix2 k d) = mW m c (ix2 d k) := wB_apply m c n k d

/-! ## The mask and its count -/

theorem mask_iff (b : Fin 4) (p : Fin 2) (r : Fin 1024) :
    mk (xB m c (2 * b.val + p.val)) (ix2 r 0) = 1#1 ↔ r.val % 2 = 0 ∧ Mk (mA m c) b (pr p r) := by
  rw [mk_apply]
  by_cases h : r.val % 2 = 0
  · rw [if_pos h, pay5_apply]
    unfold Mk
    rw [show (∑ d : Fin 1024, xB m c (2 * b.val + p.val) (ix3 0 r d)) = ∑ d : Fin 1024, mA m c (ix3 b (ev (pr p r)) d) from
      Finset.sum_congr rfl fun d _ => x_at m c b p r d _ (by
        show 2 * (512 * p.val + r.val / 2) = 1024 * p.val + r.val
        omega)]
    exact ⟨fun k => ⟨h, k⟩, fun k => k.2⟩
  · rw [if_neg h]
    exact ⟨fun k => absurd k (by decide), fun k => absurd k.1 h⟩

theorem cnt_at (b : Fin 4) (p : Fin 2) : cntT (xB m c (2 * b.val + p.val))
    = BitVec.ofNat 32 (Finset.univ.filter fun r : Fin 1024 => r.val % 2 = 0 ∧ Mk (mA m c) b (pr p r)).card := by
  rw [cntT_eq]
  refine congrArg (fun s : Finset (Fin 1024) => BitVec.ofNat 32 s.card) ?_
  ext r
  rw [Finset.mem_filter, Finset.mem_filter, mask_iff]

theorem nB_eq (b : Fin 4) : nB m c b.val = BitVec.ofNat 32 (cnt (mA m c) b) := by
  unfold nB
  rw [show cntT (xB m c (2 * b.val)) = _ from cnt_at m c b 0, show cntT (xB m c (2 * b.val + 1)) = _ from cnt_at m c b 1, ← cnt_tiles]
  show 0#32 + BitVec.ofNat 32 _ + BitVec.ofNat 32 _ = _
  rw [BitVec.zero_add, BitVec.ofNat_add]

theorem pos_iff (b : Fin 4) : Scalar.cmpi .sgt (nB m c b.val) 0#32 = 1#1 ↔ cnt (mA m c) b ≠ 0 := by
  have h : ∀ n : Fin 1025, (Scalar.cmpi .sgt (BitVec.ofNat 32 n.val) 0#32 : BitVec 1) = 1#1 ↔ n.val ≠ 0 := by decide +kernel
  rw [nB_eq]
  exact h ⟨cnt (mA m c) b, Nat.lt_succ_of_le (cnt_le _ _)⟩

/-! ## The squares -/

theorem diff_at (b : Fin 4) (p : Fin 2) (r d : Fin 1024) (h : r.val % 2 = 0) :
    k0_pay4 (xB m c (2 * b.val + p.val)) (eB m c (2 * b.val + p.val)) (wB m c (2 * b.val + p.val)) (bB m c (2 * b.val + p.val)) (ix2 r d)
      = hat (mA m c) (mE m c) (mW m c) (mB m c) b (pr p r) d - mA m c (ix3 b (od (pr p r)) d) := by
  have hr := r.isLt
  have ho : (od (pr p r)).val = 1024 * p.val + (r.val + 1) := by
    show 2 * (512 * p.val + r.val / 2) + 1 = _
    omega
  have he : (ev (pr p r)).val = 1024 * p.val + r.val := by
    show 2 * (512 * p.val + r.val / 2) = _
    omega
  rw [pay4_apply _ _ _ _ r ⟨r.val + 1, by omega⟩ d rfl, x_at m c b p r d _ he, x_at m c b p ⟨r.val + 1, by omega⟩ d _ ho, bB_apply]
  rw [show (∑ k : Fin 1024, eB m c (2 * b.val + p.val) (ix3 0 ⟨r.val + 1, by omega⟩ k) * wB m c (2 * b.val + p.val) (ix2 k d))
      = ∑ k : Fin 1024, mE m c (ix3 b (od (pr p r)) k) * mW m c (ix2 d k) from
    Finset.sum_congr rfl fun k _ => by rw [e_at m c b p ⟨r.val + 1, by omega⟩ k _ ho, w_at]]
  unfold hat
  rw [sub_eq_add_neg, sub_eq_add_neg, ← add_assoc, add_right_comm]

theorem tile_sum (b : Fin 4) (p : Fin 2) (a : EReal) :
    accN (xB m c (2 * b.val + p.val)) (eB m c (2 * b.val + p.val)) (wB m c (2 * b.val + p.val)) (bB m c (2 * b.val + p.val)) a
      = a + ∑ r : Fin 1024, if r.val % 2 = 0 then
          (if Mk (mA m c) b (pr p r) then Flow.sq (mA m c) (mE m c) (mW m c) (mB m c) b (pr p r) else 0) else 0 := by
  rw [accN_eq]
  refine congrArg (a + ·) (Finset.sum_congr rfl fun r _ => ?_)
  by_cases h : r.val % 2 = 0
  · rw [if_pos h]
    by_cases hm : Mk (mA m c) b (pr p r)
    · rw [if_pos hm, if_pos ((mask_iff m c b p r).mpr ⟨h, hm⟩)]
      exact Finset.sum_congr rfl fun d _ => by rw [diff_at m c b p r d h]
    · rw [if_neg hm, if_neg fun k => hm ((mask_iff m c b p r).mp k).2]
  · rw [if_neg h, if_neg fun k => h ((mask_iff m c b p r).mp k).1]

theorem aB_eq (b : Fin 4) : aB m c b.val = ∑ i, if Mk (mA m c) b i then Flow.sq (mA m c) (mE m c) (mW m c) (mB m c) b i else 0 := by
  unfold aB aE
  refine (tile_sum m c b 1 _).trans ?_
  rw [show accN (xB m c (2 * b.val)) (eB m c (2 * b.val)) (wB m c (2 * b.val)) (bB m c (2 * b.val)) (a₀ (F := Ideal)) = _ from tile_sum m c b 0 (a₀ (F := Ideal))]
  have h0 : a₀ (F := Ideal) = (0 : EReal) := Idealize.ShloMosaic.Ideal.ofBits_zero_f32
  rw [h0, zero_add]
  exact sum_rows fun i => if Mk (mA m c) b i then Flow.sq (mA m c) (mE m c) (mW m c) (mB m c) b i else 0

/-! ## The selected pair -/

theorem word_at : ∀ (p : Fin 2) (r : Fin 1024), Scalar.addi (Scalar.muli (BitVec.ofNat 32 p.val) 1024#32) (BitVec.ofNat 32 r.val) = BitVec.ofNat 32 (1024 * p.val + r.val) := by
  decide +kernel

/-- Where a tile holds a marked pair and no later tile does, its last marked pair is the batch's. -/
theorem last_pair {b : Fin 4} (h : Pfx (mA m c) b) (p : Fin 2) (hT : Trk (xB m c (2 * b.val + p.val))) (hp : p.val = 1 ∨ cnt (mA m c) b ≤ 512) (g : BitVec 32) :
    cnt (mA m c) b ≠ 0 ∧ bestN (BitVec.ofNat 32 p.val) (xB m c (2 * b.val + p.val)) g = BitVec.ofNat 32 (2 * (cnt (mA m c) b - 1)) := by
  obtain ⟨r, he, hm, hl, hw⟩ := last_row _ hT
  have hr := r.isLt
  have hc := cnt_le (mA m c) b
  have h1 : 512 * p.val + r.val / 2 < cnt (mA m c) b := (mk_iff_lt h _).mp ((mask_iff m c b p r).mp hm).2
  have h2 : cnt (mA m c) b ≤ 512 * p.val + r.val / 2 + 1 := by
    by_cases hb : r.val + 2 < 1024
    · by_contra hn
      refine hl ⟨r.val + 2, hb⟩ (by show r.val < r.val + 2; omega) ((mask_iff m c b p _).mpr ⟨by show (r.val + 2) % 2 = 0; omega, (mk_iff_lt h _).mpr ?_⟩)
      show 512 * p.val + (r.val + 2) / 2 < _
      omega
    · omega
  refine ⟨by omega, ?_⟩
  unfold bestN
  rw [if_pos hT, hw, word_at]
  refine congrArg (BitVec.ofNat 32) ?_
  omega

/-- A tile with no marked pair ends the marked ones before it. -/
theorem no_pair {b : Fin 4} (h : Pfx (mA m c) b) (p : Fin 2) (hT : ¬ Trk (xB m c (2 * b.val + p.val))) : cnt (mA m c) b ≤ 512 * p.val := by
  by_contra hn
  refine hT ((trk_iff _).mpr ⟨0, (mask_iff m c b p 0).mpr ⟨rfl, (mk_iff_lt h _).mpr ?_⟩⟩)
  show 512 * p.val + 0 / 2 < _
  omega

theorem kB_eq {b : Fin 4} (h : Pfx (mA m c) b) : kB m c b.val = sel (mA m c) b := by
  have hk := kB_spec m c b.val
  have hl := (kB m c b.val).isLt
  have hc := cnt_le (mA m c) b
  have hinj : ∀ n : ℕ, n < 1024 → BitVec.ofNat 32 (2 * n) = BitVec.ofNat 32 (2 * (kB m c b.val).val) → (kB m c b.val).val = n := by
    intro n hn e
    have := congrArg BitVec.toNat e
    simp only [BitVec.toNat_ofNat] at this
    omega
  have hcase : cnt (mA m c) b ≠ 0 ∧ bestN 1#32 (xB m c (2 * b.val + 1)) (bestN 0#32 (xB m c (2 * b.val)) g₀) = BitVec.ofNat 32 (2 * (cnt (mA m c) b - 1))
      ∨ cnt (mA m c) b = 0 ∧ bestN 1#32 (xB m c (2 * b.val + 1)) (bestN 0#32 (xB m c (2 * b.val)) g₀) = BitVec.ofNat 32 (2 * 1023) := by
    by_cases h1 : Trk (xB m c (2 * b.val + 1))
    · exact .inl (last_pair m c h 1 h1 (.inl rfl) _)
    · have e1 := no_pair m c h 1 h1
      rw [show ∀ g, bestN 1#32 (xB m c (2 * b.val + 1)) g = g from fun g => if_neg h1]
      by_cases h0 : Trk (xB m c (2 * b.val))
      · exact .inl (last_pair m c h 0 h0 (.inr e1) _)
      · exact .inr ⟨Nat.le_zero.mp (no_pair m c h 0 h0), if_neg h0⟩
  apply Fin.ext
  unfold sel
  rcases hcase with ⟨h0, e⟩ | ⟨h0, e⟩
  · rw [dif_neg h0]
    exact hinj _ (by omega) (e.symm.trans hk)
  · rw [dif_pos h0]
    exact hinj 1023 (by omega) (e.symm.trans hk)

/-! ## The results -/

theorem q_at (b : Fin 4) (d : Fin 1024) : qR m c b.val (ix2 0 d) = mA m c (ix3 b (ev (kB m c b.val)) d) := by
  unfold qR row
  rw [V_main_arg0 m c, bF_val]
  rfl
theorem a_at (b : Fin 4) (d : Fin 1024) : aR m c b.val (ix2 0 d) = mA m c (ix3 b (od (kB m c b.val)) d) := by
  unfold aR row
  rw [V_main_arg0 m c, bF_val]
  rfl
theorem er_at (b : Fin 4) (d : Fin 1024) : eR m c b.val (ix2 0 d) = mE m c (ix3 b (od (kB m c b.val)) d) := by
  unfold eR row
  rw [V_main_arg1 m c, bF_val]
  rfl

theorem hat_at (b : Fin 4) (d : Fin 1024) :
    k0_pay12 (qR m c b.val) (k0_pay1 (eR m c b.val)) (wB m c (2 * b.val + 1)) (bB m c (2 * b.val + 1)) (ix2 0 d)
      = hat (mA m c) (mE m c) (mW m c) (mB m c) b (kB m c b.val) d := by
  rw [pay12_apply, q_at, bB_apply]
  unfold hat
  rw [show (∑ k : Fin 1024, eR m c b.val (ix2 0 k) * wB m c (2 * b.val + 1) (ix2 k d)) = ∑ k : Fin 1024, mE m c (ix3 b (od (kB m c b.val)) k) * mW m c (ix2 d k) from
    Finset.sum_congr rfl fun k _ => by rw [er_at, w_at]]

theorem hatB_at (b : Fin 4) (d : Fin 1024) : hatB m c b.val (ix3 0 0 d) = hat (mA m c) (mE m c) (mW m c) (mB m c) b (kB m c b.val) d := by
  unfold hatB
  rw [pay13_apply, hat_at]

theorem ansB_at (b : Fin 4) (d : Fin 1024) : ansB m c b.val (ix3 0 0 d) = mA m c (ix3 b (od (kB m c b.val)) d) := by
  unfold ansB
  rw [pay14_apply, a_at]

/-- What the precondition gives on a core: the marked pairs come first and the arguments are finite. -/
structure Good : Prop where
  pfx : ∀ b, Pfx (mA m c) b
  hA : ∀ i, Rl (mA m c i)
  hE : ∀ i, Rl (mE m c i)
  hW : ∀ i, Rl (mW m c i)
  hB : ∀ i, Rl (mB m c i)

variable {m c}

theorem loss_step (h : Good m c) (b : Fin 4) : lossB m c (b.val + 1) (ix2 0 0) = lossB m c b.val (ix2 0 0)
    + ∑ i : Fin 1024, if Mk (mA m c) b i ∧ i.val + 1 ≠ cnt (mA m c) b then Flow.sq (mA m c) (mE m c) (mW m c) (mB m c) b i else 0 := by
  rw [lossB, pay15_apply]
  refine congrArg (lossB m c b.val (ix2 0 0) + ·) ?_
  rw [aB_eq, show (∑ d : Fin 1024, (k0_pay12 (qR m c b.val) (k0_pay1 (eR m c b.val)) (wB m c (2 * b.val + 1)) (bB m c (2 * b.val + 1)) (ix2 0 d) - aR m c b.val (ix2 0 d))
        * (k0_pay12 (qR m c b.val) (k0_pay1 (eR m c b.val)) (wB m c (2 * b.val + 1)) (bB m c (2 * b.val + 1)) (ix2 0 d) - aR m c b.val (ix2 0 d)))
      = Flow.sq (mA m c) (mE m c) (mW m c) (mB m c) b (kB m c b.val) from Finset.sum_congr rfl fun d _ => by rw [hat_at, a_at]]
  have hc := cnt_le (mA m c) b
  by_cases h0 : cnt (mA m c) b = 0
  · rw [if_neg fun k => (pos_iff m c b).mp k h0, sub_zero]
    refine Finset.sum_congr rfl fun i _ => ?_
    have hi : ¬ Mk (mA m c) b i := fun k => by have := (mk_iff_lt (h.pfx b) i).mp k; omega
    rw [if_neg hi, if_neg fun k => hi k.1]
  · rw [if_pos ((pos_iff m c b).mpr h0), kB_eq m c (h.pfx b)]
    have hs : (sel (mA m c) b).val = cnt (mA m c) b - 1 := by unfold sel; rw [dif_neg h0]
    refine (sum_sub_one (fun i => Mk (mA m c) b i) (fun i => Flow.sq (mA m c) (mE m c) (mW m c) (mB m c) b i) (sel (mA m c) b)
      ((mk_iff_lt (h.pfx b) _).mpr (by omega)) (sq_rl h.hA h.hE h.hW h.hB b _)).trans ?_
    refine Finset.sum_congr rfl fun i _ => ?_
    have : i ≠ sel (mA m c) b ↔ i.val + 1 ≠ cnt (mA m c) b := not_congr (Fin.ext_iff.trans (by rw [hs]; omega))
    by_cases hP : Mk (mA m c) b i ∧ i.val + 1 ≠ cnt (mA m c) b
    · rw [if_pos hP, if_pos ⟨hP.1, this.mpr hP.2⟩]
    · rw [if_neg hP, if_neg fun k => hP ⟨k.1, this.mp k.2⟩]

theorem loss_eq (h : Good m c) : lossB m c 4 (ix2 0 0) = loss (mA m c) (mE m c) (mW m c) (mB m c) := by
  rw [show lossB m c 4 (ix2 0 0) = _ from loss_step h 3, show lossB m c (3 : Fin 4).val (ix2 0 0) = _ from loss_step h 2,
    show lossB m c (2 : Fin 4).val (ix2 0 0) = _ from loss_step h 1, show lossB m c (1 : Fin 4).val (ix2 0 0) = _ from loss_step h 0]
  have h0 : lossB m c (0 : Fin 4).val (ix2 0 0) = (0 : EReal) := by
    show k0_pay2 (F := Ideal) (ix2 0 0) = (0 : EReal)
    pointwise [k0_pay2]
  rw [h0, zero_add]
  unfold loss
  rw [Fin.sum_univ_four]

/-- The prediction the kernel leaves, -/
theorem out0 (h : Good m c) (b : Fin 4) (d : Fin 1024) :
    Vend m c (Proc.devRef .tc main_v0_0) (ix2 b d) = hat (mA m c) (mE m c) (mW m c) (mB m c) b (sel (mA m c) b) d := by
  rw [res0, hatB_at, kB_eq m c (h.pfx b)]
/-- the answer -/
theorem out1 (h : Good m c) (b : Fin 4) (d : Fin 1024) :
    Vend m c (Proc.devRef .tc main_v0_1) (ix2 b d) = mA m c (ix3 b (od (sel (mA m c) b)) d) := by
  rw [res1, ansB_at, kB_eq m c (h.pfx b)]
/-- and the loss. -/
theorem out2 (h : Good m c) (j : S_.Idx) : Vend m c (Proc.devRef .tc main_v0_2) j = loss (mA m c) (mE m c) (mW m c) (mB m c) := by
  rw [res2, loss_eq h]

end Cert.KernelIdeal.Hand

end
-- ==== Proof.Pre.lean ====
/-
  What the precondition says of the arguments: in every batch the marked pairs come first, and every argument is finite.
-/
module

public import proofs.«01_k».proof.Defs
public import proofs.«01_k».proof.Proof.Gen.Pre_prefix_mask
public import proofs.«01_k».proof.Proof.ValI

@[expose] public section

set_option maxRecDepth 16384

noncomputable section

namespace Cert.Pre_prefix_mask.Hand

open Cert.Pre_prefix_mask Cert.Pre_prefix_mask.Gen Cert.Flow
open Idealize.ShloMosaic
open scoped Classical

attribute [local instance] Cert.Pre_prefix_mask.Gen.facts

theorem inf_top : Ideal.ofBits .f32 0x7F800000#32 = (⊤ : EReal) := by simp [Ideal.ofBits, Ideal.ieee]

theorem ofBool_one (p : Prop) [Decidable p] : BitVec.ofBool (decide p) = 1#1 ↔ p := by
  by_cases h : p
  · simp [h]
  · simp [h]

variable (A E : A3) (W : A2) (B : A1)

theorem pfx_of (h : (fn (F := Ideal) A E W B).1 = fun _ => 1#1) (b : Fin 4) : Pfx A b := by
  intro i j hj hm
  have hi := j.isLt
  have h1 := congrFun h (ix2 b ⟨i.val, by omega⟩)
  unfold fn fn_part1 at h1
  revert h1
  pointwise []
  intro h1
  have e : (⟨2 * (1 + i.val), by omega⟩ : Fin 2048) = ev j := Fin.ext (by show 2 * (1 + i.val) = 2 * j.val; omega)
  have hm' : ∑ d : Fin 1024, A (ix3 b ⟨2 * (1 + i.val), by omega⟩ d) ≠ 0 := by rw [e]; exact hm
  by_contra hn
  have hn' : ¬ ∑ d : Fin 1024, A (ix3 b ⟨2 * i.val, by omega⟩ d) ≠ 0 := hn
  rw [decide_eq_false hn', decide_eq_true hm'] at h1
  exact absurd h1 (by decide)

theorem fin0 (h : (fn (F := Ideal) A E W B).2.1 = fun _ => 1#1) (i) : Rl (A i) := by
  have h1 := congrFun h i
  unfold fn fn_part1 at h1
  refine rl_of_abs ?_
  rw [← inf_top]
  exact (ofBool_one _).mp h1

theorem fin1 (h : (fn (F := Ideal) A E W B).2.2.1 = fun _ => 1#1) (i) : Rl (E i) := by
  have h1 := congrFun h i
  unfold fn fn_part1 at h1
  refine rl_of_abs ?_
  rw [← inf_top]
  exact (ofBool_one _).mp h1

theorem fin2 (h : (fn (F := Ideal) A E W B).2.2.2.1 = fun _ => 1#1) (i) : Rl (W i) := by
  have h1 := congrFun h i
  unfold fn fn_part1 at h1
  refine rl_of_abs ?_
  rw [← inf_top]
  exact (ofBool_one _).mp h1

theorem fin3 (h : (fn (F := Ideal) A E W B).2.2.2.2 = fun _ => 1#1) (i) : Rl (B i) := by
  have h1 := congrFun h i
  unfold fn fn_part1 at h1
  refine rl_of_abs ?_
  rw [← inf_top]
  exact (ofBool_one _).mp h1

/-- What the precondition gives of the kernel's arguments. -/
theorem good (m : (ℓ : Loc Cert.KernelIdeal.nD Cert.KernelIdeal.τ Cert.KernelIdeal.sig) → Buf (Elt Ideal) ℓ)
    (h : Cert.Pre_KernelIdeal_prefix_mask m) (c : Dev Cert.KernelIdeal.nD) : Cert.KernelIdeal.Hand.Good m c where
  pfx := pfx_of _ _ _ _ (h c).1
  hA := fin0 _ _ _ _ (h c).2.1
  hE := fin1 _ _ _ _ (h c).2.2.1
  hW := fin2 _ _ _ _ (h c).2.2.2.1
  hB := fin3 _ _ _ _ (h c).2.2.2.2

end Cert.Pre_prefix_mask.Hand

end
-- ==== Proof.lean ====
module

public import proofs.«01_k».proof.Defs
public import proofs.«01_k».proof.Proof.Run
public import proofs.«01_k».proof.Proof.RunI
public import proofs.«01_k».proof.Proof.Ref
public import proofs.«01_k».proof.Proof.RefVal
public import proofs.«01_k».proof.Proof.ValI
public import proofs.«01_k».proof.Proof.Pre
public import proofs.«01_k».proof.Proof.Gen.ReferenceIdeal.Run
public import proofs.«01_k».proof.Proof.Gen.ReferenceIdeal.Read
public import proofs.«01_k».proof.Proof.Gen.Pre_prefix_mask
public import Idealize.ShloMosaic.Adequacy
public import Idealize.ShloMosaic.Init

@[expose] public section

noncomputable section

namespace Cert.Proof

open Idealize.ShloMosaic Idealize.SL.Sem
open Cert.KernelIdeal.Hand (mA mE mW mB Vend Vend_arg0 Vend_arg1 Vend_arg2 Vend_arg3 out0 out1 out2)
open Cert.ReferenceIdeal.Read (val_main_v48_eq val_main_v62_eq val_main_v33_eq)
open Cert.ReferenceIdeal.Hand (v48_apply v62_apply v33_apply)

theorem frame_P : Cert.quiescent_Kernel := fun m g _ => Cert.Kernel.Hand.frame (F := Bits) m g
theorem frame_PI : Cert.quiescent_KernelIdeal := fun m g _ => Cert.KernelIdeal.Hand.frame (F := Ideal) m g

attribute [local instance] Cert.Pre_prefix_mask.Gen.facts

/-- The kernel and the reference leave the same prediction, answer and loss. -/
theorem algebraic : Cert.algebraic_KernelIdeal_ReferenceIdeal_pre_prefix_mask := by
  intro m g m' g' hpre hm
  have hg := Cert.Pre_prefix_mask.Hand.good m hpre
  refine ⟨fun c => Vend m c (Proc.devRef .tc Cert.KernelIdeal.main_v0_0), fun c => Vend m c (Proc.devRef .tc Cert.KernelIdeal.main_v0_1),
    fun c => Vend m c (Proc.devRef .tc Cert.KernelIdeal.main_v0_2),
    (θ_run Cert.KernelIdeal.defs _ _).mono (fun r h c => ⟨h.1 c Cert.KernelIdeal.main_v0_0 rfl, h.1 c Cert.KernelIdeal.main_v0_1 rfl, h.1 c Cert.KernelIdeal.main_v0_2 rfl,
      (h.1 c Cert.KernelIdeal.main_arg0 rfl).trans (Vend_arg0 m c), (h.1 c Cert.KernelIdeal.main_arg1 rfl).trans (Vend_arg1 m c),
      (h.1 c Cert.KernelIdeal.main_arg2 rfl).trans (Vend_arg2 m c), (h.1 c Cert.KernelIdeal.main_arg3 rfl).trans (Vend_arg3 m c)⟩)
      (Cert.KernelIdeal.Hand.run_main (F := Ideal) m g),
    (θ_run Cert.ReferenceIdeal.defs _ _).mono (fun r h c => ⟨?_, ?_, ?_, (h c).2.2.2⟩) (Cert.ReferenceIdeal.Value.run (F := Ideal) m' g')⟩
  · refine (h c).1.trans ((val_main_v48_eq _ _ _ _).trans ?_)
    rw [(hm c).1, (hm c).2.1, (hm c).2.2.1, (hm c).2.2.2]
    funext j
    rw [show j = ix2 (j 0) (j 1) from eq_ix2 j]
    exact (v48_apply (mA m c) (mE m c) (mW m c) (mB m c) (j 0) (j 1)).trans (out0 (hg c) (j 0) (j 1)).symm
  · refine (h c).2.1.trans ((val_main_v62_eq _).trans ?_)
    rw [(hm c).1]
    funext j
    rw [show j = ix2 (j 0) (j 1) from eq_ix2 j]
    exact (v62_apply (mA m c) (j 0) (j 1)).trans (out1 (hg c) (j 0) (j 1)).symm
  · refine (h c).2.2.1.trans ((val_main_v33_eq _ _).trans ?_)
    rw [(hm c).1, (hm c).2.1, (hm c).2.2.1, (hm c).2.2.2]
    funext j
    exact (v33_apply (mA m c) (mE m c) (mW m c) (mB m c) j).trans (out2 (hg c) j).symm

theorem claim : Cert.Claim := ⟨Cert.Kernel.Gen.facts, Cert.KernelIdeal.Gen.facts, Cert.ReferenceIdeal.Gen.facts, Cert.Pre_prefix_mask.Gen.facts,
  frame_P, frame_PI, fun m g _ => frame_PI m g trivial, Cert.ReferenceIdeal.Hand.frame, fun m g _ => Cert.ReferenceIdeal.Hand.frame m g trivial,
  trivial, algebraic⟩

end Cert.Proof

end
